-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 1024, 16, 64]⟩ ⟨4, ![2, 1024, 32, 64]⟩ (Layout.meshBlock [2, 4, 4] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![2, 512, 2048]⟩ ⟨3, ![2, 1024, 2048]⟩ (Layout.meshBlock [2, 4, 4] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16x64 : Shape := ⟨4, ![2, 1024, 16, 64]⟩
abbrev S1024x2048 : Shape := ⟨2, ![1024, 2048]⟩
abbrev S2x1024x1024 : Shape := ⟨3, ![2, 1024, 1024]⟩
abbrev S2x512x2048 : Shape := ⟨3, ![2, 512, 2048]⟩
abbrev S8 : Shape := ⟨1, ![8]⟩
abbrev S_ : Shape := ⟨0, ![]⟩
abbrev S1x128x1024 : Shape := ⟨3, ![1, 128, 1024]⟩
abbrev S128x1024 : Shape := ⟨2, ![128, 1024]⟩
abbrev S128x2048 : Shape := ⟨2, ![128, 2048]⟩
abbrev S1x128x2048 : Shape := ⟨3, ![1, 128, 2048]⟩
abbrev S1 : Shape := ⟨1, ![1]⟩
abbrev S1x512x1024 : Shape := ⟨3, ![1, 512, 1024]⟩
abbrev S512x1024 : Shape := ⟨2, ![512, 1024]⟩
abbrev S512x2048 : Shape := ⟨2, ![512, 2048]⟩
abbrev S1x512x2048 : Shape := ⟨3, ![1, 512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2x1024x16x64, .f32⟩
  | .hbm, ⟨1, _⟩ => ⟨S1024x2048, .f32⟩
  | .hbm, ⟨2, _⟩ => ⟨S2x1024x1024, .f32⟩
  | .hbm, ⟨3, _⟩ => ⟨S2x512x2048, .f32⟩
  | .local _ .vmem, ⟨0, _⟩ => ⟨S2x1024x1024, .f32⟩
  | .local _ .vmem, ⟨1, _⟩ => ⟨S1024x2048, .f32⟩
  | .local _ .vmem, ⟨2, _⟩ => ⟨S2x512x2048, .f32⟩
  | .local _ .vmem, ⟨3, _⟩ => ⟨S2x512x2048, .bf16⟩
  | .local _ .vmem, ⟨4, _⟩ => ⟨S2x512x2048, .bf16⟩
  | _, _ => ⟨S2x1024x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_8 : BitVec 32) : Fin 3 → Nat :=
  let c0 : Index := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  let v18 : BitVec 32 := Scalar.addi v17 c0_i32_8
  let v19 : Index := Scalar.indexCast v18
  let c0_9 : Index := 0#32
  ![0, v19.toNat, 0]
def k0_dev2 (d0 : Dev nD) : Nat :=
  let c0_i32_20 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_19 : BitVec 32 := 16#32
  let v29 : BitVec 32 := Scalar.muli v9 c16_i32_19
  let v30 : BitVec 32 := Scalar.addi c0_i32_20 v29
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v31 : BitVec 32 := Scalar.muli v5 c4_i32_21
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v33 : BitVec 32 := Scalar.muli v8 c1_i32_22
  let v34 : BitVec 32 := Scalar.addi v32 v33
  v34.toNat
def k0_off2 (d0 : Dev nD) (c0_i32_27 : BitVec 32) : Fin 3 → Nat :=
  let c1 : Index := 1#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  let v43 : BitVec 32 := Scalar.addi v17 c0_i32_27
  let v44 : Index := Scalar.indexCast v43
  let c0_28 : Index := 0#32
  ![1, v44.toNat, 0]
def k0_dev3 (d0 : Dev nD) : Nat :=
  let c0_i32_40 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_39 : BitVec 32 := 16#32
  let v54 : BitVec 32 := Scalar.muli v9 c16_i32_39
  let v55 : BitVec 32 := Scalar.addi c0_i32_40 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v56 : BitVec 32 := Scalar.muli v5 c4_i32_41
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v58 : BitVec 32 := Scalar.muli v8 c1_i32_42
  let v59 : BitVec 32 := Scalar.addi v57 v58
  v59.toNat
def k0_dev4 (d0 : Dev nD) : Nat :=
  let c0_i32_59 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_58 : BitVec 32 := 16#32
  let v79 : BitVec 32 := Scalar.muli v9 c16_i32_58
  let v80 : BitVec 32 := Scalar.addi c0_i32_59 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_60 : BitVec 32 := 4#32
  let v81 : BitVec 32 := Scalar.muli v5 c4_i32_60
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v83 : BitVec 32 := Scalar.muli v8 c1_i32_61
  let v84 : BitVec 32 := Scalar.addi v82 v83
  v84.toNat
def k0_dev5 (d0 : Dev nD) : Nat :=
  let c0_i32_79 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_78 : BitVec 32 := 16#32
  let v104 : BitVec 32 := Scalar.muli v9 c16_i32_78
  let v105 : BitVec 32 := Scalar.addi c0_i32_79 v104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v106 : BitVec 32 := Scalar.muli v5 c4_i32_80
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v108 : BitVec 32 := Scalar.muli v8 c1_i32_81
  let v109 : BitVec 32 := Scalar.addi v107 v108
  v109.toNat
def k0_dev6 (d0 : Dev nD) : Nat :=
  let c0_i32_98 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_97 : BitVec 32 := 16#32
  let v129 : BitVec 32 := Scalar.muli v9 c16_i32_97
  let v130 : BitVec 32 := Scalar.addi c0_i32_98 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_99 : BitVec 32 := 4#32
  let v131 : BitVec 32 := Scalar.muli v5 c4_i32_99
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v133 : BitVec 32 := Scalar.muli v8 c1_i32_100
  let v134 : BitVec 32 := Scalar.addi v132 v133
  v134.toNat
def k0_dev7 (d0 : Dev nD) : Nat :=
  let c0_i32_118 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_117 : BitVec 32 := 16#32
  let v154 : BitVec 32 := Scalar.muli v9 c16_i32_117
  let v155 : BitVec 32 := Scalar.addi c0_i32_118 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_119 : BitVec 32 := 4#32
  let v156 : BitVec 32 := Scalar.muli v5 c4_i32_119
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v158 : BitVec 32 := Scalar.muli v8 c1_i32_120
  let v159 : BitVec 32 := Scalar.addi v157 v158
  v159.toNat
def k0_dev8 (d0 : Dev nD) : Nat :=
  let c0_i32_136 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_135 : BitVec 32 := 16#32
  let v179 : BitVec 32 := Scalar.muli v9 c16_i32_135
  let v180 : BitVec 32 := Scalar.addi c0_i32_136 v179
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_137 : BitVec 32 := 4#32
  let v181 : BitVec 32 := Scalar.muli v5 c4_i32_137
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v183 : BitVec 32 := Scalar.muli v8 c1_i32_138
  let v184 : BitVec 32 := Scalar.addi v182 v183
  v184.toNat
def k0_dev9 (d0 : Dev nD) : Nat :=
  let c0_i32_156 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_155 : BitVec 32 := 16#32
  let v204 : BitVec 32 := Scalar.muli v9 c16_i32_155
  let v205 : BitVec 32 := Scalar.addi c0_i32_156 v204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_157 : BitVec 32 := 4#32
  let v206 : BitVec 32 := Scalar.muli v5 c4_i32_157
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v208 : BitVec 32 := Scalar.muli v8 c1_i32_158
  let v209 : BitVec 32 := Scalar.addi v207 v208
  v209.toNat
def k0_off3 (d0 : Dev nD) : Fin 3 → Nat :=
  let c0_164 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_163 : BitVec 32 := 512#32
  let v218 : BitVec 32 := Scalar.muli v2 c512_i32_163
  let v219 : Index := Scalar.indexCast v218
  let c0_165 : Index := 0#32
  ![0, v219.toNat, 0]
def k0_off4 (d0 : Dev nD) : Fin 3 → Nat :=
  let c1_172 : Index := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_163 : BitVec 32 := 512#32
  let v218 : BitVec 32 := Scalar.muli v2 c512_i32_163
  let v228 : Index := Scalar.indexCast v218
  let c0_173 : Index := 0#32
  ![1, v228.toNat, 0]
abbrev stage0_0 : Fin 1 → Memref sig .tc .vmem S2x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x32x64 : Shape := ⟨4, ![2, 1024, 32, 64]⟩
abbrev S2048x2048 : Shape := ⟨2, ![2048, 2048]⟩
abbrev S2x1024x2048 : Shape := ⟨3, ![2, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x32x64, .f32⟩
  | .hbm, ⟨1, _⟩ => ⟨S2048x2048, .f32⟩
  | .hbm, ⟨2, _⟩ => ⟨S2x1024x2048, .f32⟩
  | .hbm, ⟨3, _⟩ => ⟨S2x1024x2048, .f32⟩
  | _, _ => ⟨S2x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Prog.lean ====
/-
  The kernel's body as three loops over the eight chunks it exchanges.

  Chunk `i` is batch `i % 2`, rows `128 * (i / 2)` onwards: 128 rows of 2048 columns.  Each chunk is computed, written to
  the send buffer and copied to the partner; then the device computes its own half; then each chunk's arrival is awaited
  and added; then each send is awaited.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.KernelIdeal.Exchange

open Cert.KernelIdeal Cert.KernelIdeal.Gen
open Idealize.ShloMosaic Idealize.SL.Sem

variable {F : FTy → Type} [FloatOps F]

/-! ## The buffers -/

/-- This device's half of the attention output, in its staging buffer. -/
abbrev oM : Memref sig .tc .vmem S2x1024x1024 .f32 := Memref.whole cc0_stg0_0
/-- This device's half of the weight, in its staging buffer. -/
abbrev wM : Memref sig .tc .vmem S1024x2048 .f32 := Memref.whole cc0_stg1_0
/-- The result's staging buffer. -/
abbrev outM : Memref sig .tc .vmem S2x512x2048 .f32 := Memref.whole cc0_stg2_0
/-- The send buffer. -/
abbrev sM : Memref sig .tc .vmem S2x512x2048 .bf16 := Memref.whole cc0_scratch0
/-- The receive buffer. -/
abbrev rM : Memref sig .tc .vmem S2x512x2048 .bf16 := Memref.whole cc0_scratch1

/-! ## The chunks -/

/-- Where chunk `i` starts. -/
abbrev off (i : Fin 8) : Fin 3 → ℕ := ![i.val % 2, 128 * (i.val / 2), 0]

theorem off_inb : ∀ i : Fin 8, ∀ a, off i a + S1x128x2048.size a ≤ S2x512x2048.size a := by decide

/-- Chunk `i` of a buffer of the result's shape. -/
abbrev chunk (i : Fin 8) : Rect S2x512x2048 := Rect.unit (s := S2x512x2048) (off i) S1x128x2048.size (off_inb i)

theorem chunk_words : ∀ i : Fin 8, (chunk i).WholeWords (EltTy.packing .bf16) := by decide
theorem chunk_packed : ∀ i : Fin 8, (chunk i).PackedRows (EltTy.packing .bf16) := by decide

/-- Chunk `i` of a bf16 buffer, as the copies see it: 128 rows of 2048. -/
abbrev piece (b : Memref sig .tc .vmem S2x512x2048 .bf16) (i : Fin 8) : Memref sig .tc .vmem S128x2048 .bf16 :=
  (b.slice (chunk i) (fun _ => rfl)).squeeze S128x2048 squeezes_S1x128x2048_S128x2048

theorem piece_words (b : Memref sig .tc .vmem S2x512x2048 .bf16) (hb : b.IsWhole) (i : Fin 8) : (piece b i).view.WordExact :=
  (hb.wordExact_slice rfl _ (chunk_words i)).reshape _ _

theorem sem_inb : ∀ i : Fin 8, ∀ a, (![i.val] : Fin 1 → ℕ) a + S1.size a ≤ S8.size a := by decide

/-- Semaphore `i` of an array of eight. -/
abbrev semAt (a : DmaSems sig S8) (i : Fin 8) : DmaSem sig :=
  ((a.slice (Rect.unit (s := S8) ![i.val] S1.size (sem_inb i))).squeeze S_ squeezes_S1_S_).sem

abbrev sendSem (i : Fin 8) : DmaSem sig := semAt cc0_scratch2 i
abbrev recvSem (i : Fin 8) : DmaSem sig := semAt cc0_scratch3 i

/-! ## What is computed -/

/-- What a chunk sends: the product of 128 rows with the weight, rounded to bf16. -/
def sendVal (x : Vec F S1x128x1024 .f32) (w : Vec F S1024x2048 .f32) : FVec F S1x128x2048 .bf16 := k0_pay1 x w
/-- The device's own product for one batch. -/
def ownVal (x : Vec F S1x512x1024 .f32) (w : Vec F S1024x2048 .f32) : FVec F S1x512x2048 .f32 := k0_pay11 x w
/-- The arrived chunk added to the device's own. -/
def addVal (y : Vec F S1x128x2048 .f32) (z : Vec F S1x128x2048 .bf16) : FVec F S1x128x2048 .f32 := k0_pay13 y z

/-- The device chunk `i` is sent to, as printed. -/
def dstOf (d : Dev nD) : Fin 8 → Dev nD :=
  ![⟨k0_dev2 d, k0_dev2_lt d⟩, ⟨k0_dev3 d, k0_dev3_lt d⟩, ⟨k0_dev4 d, k0_dev4_lt d⟩, ⟨k0_dev5 d, k0_dev5_lt d⟩,
    ⟨k0_dev6 d, k0_dev6_lt d⟩, ⟨k0_dev7 d, k0_dev7_lt d⟩, ⟨k0_dev8 d, k0_dev8_lt d⟩, ⟨k0_dev9 d, k0_dev9_lt d⟩]

/-- Where the rows of chunk `i` start in the device's half of the attention output, as printed. -/
def rowsOf (d : Dev nD) (i : Fin 8) : Fin 3 → ℕ :=
  (![k0_off1 d 0#32, k0_off2 d 0#32, k0_off1 d 128#32, k0_off2 d 128#32,
    k0_off1 d 256#32, k0_off2 d 256#32, k0_off1 d 384#32, k0_off2 d 384#32] : Fin 8 → Fin 3 → ℕ) i

theorem rowsOf_inb (d : Dev nD) (i : Fin 8) : ∀ a, rowsOf d i a + S1x128x1024.size a ≤ S2x1024x1024.size a := by
  fin_cases i
  · exact k0_off1_inb d 0
  · exact k0_off2_inb d 0
  · exact k0_off1_inb d 1
  · exact k0_off2_inb d 1
  · exact k0_off1_inb d 2
  · exact k0_off2_inb d 2
  · exact k0_off1_inb d 3
  · exact k0_off2_inb d 3

/-- Where the rows of the device's own half of batch `b` start. -/
def ownOf (d : Dev nD) (b : Fin 2) : Fin 3 → ℕ := (![k0_off3 d, k0_off4 d] : Fin 2 → Fin 3 → ℕ) b

theorem ownOf_inb (d : Dev nD) (b : Fin 2) : ∀ a, ownOf d b a + S1x512x1024.size a ≤ S2x1024x1024.size a := by
  fin_cases b
  · exact k0_off3_inb d
  · exact k0_off4_inb d

/-- Batch `b` of the result. -/
abbrev boff (b : Fin 2) : Fin 3 → ℕ := ![b.val, 0, 0]
theorem boff_inb : ∀ b : Fin 2, ∀ a, boff b a + S1x512x2048.size a ≤ S2x512x2048.size a := by decide
abbrev slab (b : Fin 2) : Rect S2x512x2048 := Rect.unit (s := S2x512x2048) (boff b) S1x512x2048.size (boff_inb b)

abbrev orect (d : Dev nD) (i : Fin 8) : Rect S2x1024x1024 := Rect.unit (s := S2x1024x1024) (rowsOf d i) S1x128x1024.size (rowsOf_inb d i)
abbrev ownrect (d : Dev nD) (b : Fin 2) : Rect S2x1024x1024 := Rect.unit (s := S2x1024x1024) (ownOf d b) S1x512x1024.size (ownOf_inb d b)
abbrev wrect : Rect S1024x2048 := Rect.unit (s := S1024x2048) ![0, 0] S1024x2048.size inb_S1024x2048_S1024x2048_0_0

/-! ## The steps -/

abbrev P (F : FTy → Type) : Type 1 := Prog (TpuEff nD τ sig (Elt F) Λ₀ .tc) PUnit

/-- Compute chunk `i`, write it to the send buffer and start its copy to device `e`. -/
def sendTo (d e : Dev nD) (i : Fin 8) : P F := do
  let x : Vec F S1x128x1024 .f32 ← Prog.lift (.load oM (orect d i).toLoadRect (View.loadsAt_vmem h_S1x128x1024))
  let w : Vec F S1024x2048 .f32 ← Prog.lift (.load wM wrect.toLoadRect (View.loadsAt_vmem h_S1024x2048))
  let _ : Vec F S1x128x2048 .bf16 ← Prog.lift (.load sM (chunk i).toLoadRect (View.loadsAt_vmem h_S1x128x2048))
  Prog.lift (.store sM (chunk i) (sendVal x w) Finset.univ
    (View.stores_vmem h_S1x128x2048 ((Memref.isWhole_whole cc0_scratch0).storeExact_slice rfl _ (chunk_packed i)) (fun _ => rfl)) (.inl rfl))
  Prog.lift (.enqueueDma (piece sM i) (.remote (Dev.tc e) (piece rM i) (.dma (sendSem i))) (.dma (recvSem i))
    (piece_words _ (Memref.isWhole_whole _) i) (piece_words _ (Memref.isWhole_whole _) i) ⟨⟨rfl, Or.inl rfl⟩, trivial⟩)

/-- The same, to the device printed. -/
def sendStep (d : Dev nD) (i : Fin 8) : P F := sendTo d (dstOf d i) i

/-- Compute the device's own half of batch `b`. -/
def ownStep (d : Dev nD) (b : Fin 2) : P F := do
  let x : Vec F S1x512x1024 .f32 ← Prog.lift (.load oM (ownrect d b).toLoadRect (View.loadsAt_vmem h_S1x512x1024))
  let w : Vec F S1024x2048 .f32 ← Prog.lift (.load wM wrect.toLoadRect (View.loadsAt_vmem h_S1024x2048))
  let _ : Vec F S1x512x2048 .f32 ← Prog.lift (.load outM (slab b).toLoadRect (View.loadsAt_vmem h_S1x512x2048))
  Prog.lift (.store outM (slab b) (ownVal x w) Finset.univ (View.stores_vmem_bits_univ h_S1x512x2048 rfl) (.inl rfl))

/-- Await chunk `i` and add it. -/
def recvStep (i : Fin 8) : P F := do
  Prog.lift (.waitDma2 (recvSem i) (piece sM i) (piece rM i)
    (piece_words _ (Memref.isWhole_whole _) i) (piece_words _ (Memref.isWhole_whole _) i))
  let y : Vec F S1x128x2048 .f32 ← Prog.lift (.load outM (chunk i).toLoadRect (View.loadsAt_vmem h_S1x128x2048))
  let z : Vec F S1x128x2048 .bf16 ← Prog.lift (.load rM (chunk i).toLoadRect (View.loadsAt_vmem h_S1x128x2048))
  let _ : Vec F S1x128x2048 .f32 ← Prog.lift (.load outM (chunk i).toLoadRect (View.loadsAt_vmem h_S1x128x2048))
  Prog.lift (.store outM (chunk i) (addVal y z) Finset.univ (View.stores_vmem_bits_univ h_S1x128x2048 rfl) (.inl rfl))

/-- Await the send of chunk `i`. -/
def drainStep (i : Fin 8) : P F :=
  Prog.lift (.waitDma2 (sendSem i) (piece rM i) (piece sM i)
    (piece_words _ (Memref.isWhole_whole _) i) (piece_words _ (Memref.isWhole_whole _) i))

/-- One program per element of a list, in order. -/
def each {α : Type} (f : α → P F) : List α → P F
  | [] => .ret ⟨⟩
  | a :: l => f a >>= fun _ => each f l

/-- The eight chunks in the order they are taken. -/
abbrev chunks : List (Fin 8) := [0, 1, 2, 3, 4, 5, 6, 7]

/-- The barrier with the partner. -/
def barrierStep (d : Dev nD) : P F := do
  semSignalWord (⟨k0_dev1 d, k0_dev1_lt d⟩ : Dev nD) barrier0 1#32
  semWaitWord barrier0 1#32

/-- The body, by steps. -/
def body : P F := do
  let d : Dev nD ← Prog.lift .deviceId
  barrierStep d
  each (sendStep d) chunks
  each (ownStep d) [0, 1]
  each recvStep chunks
  each drainStep chunks

set_option maxRecDepth 65536 in
theorem bodyAt_eq (t : Fin cfg0.N) : bodyAt0 (F := F) t = body := by
  rfl

end Cert.KernelIdeal.Exchange
-- ==== Proof.KernelIdeal.Geometry.lean ====
/-
  The chunks as sets of elements, the partner of a device, and what every element of the result is made of.
-/
module

public import proofs.«01_k».proof.Proof.KernelIdeal.Prog

@[expose] public section

set_option maxRecDepth 16384

noncomputable section

namespace Cert.KernelIdeal.Exchange

open Cert.KernelIdeal Cert.KernelIdeal.Gen
open Idealize.ShloMosaic Idealize.SL.Sem

variable {F : FTy → Type} [FloatOps F]

/-! ## The partner -/

/-- The device across the first mesh axis. -/
def peer (c : Dev nD) : Dev nD := ⟨(c.val + 16) % 32, Nat.mod_lt _ (by decide)⟩

theorem peer_peer (c : Dev nD) : peer (peer c) = c := by
  apply Fin.ext; have := c.isLt; simp only [peer, nD] at *; omega

theorem peer_inj {c d : Dev nD} (h : peer c = peer d) : c = d := by rw [← peer_peer c, h, peer_peer]

/-- The pairing as a permutation of the devices. -/
def swap : Dev nD ≃ Dev nD := ⟨peer, peer, peer_peer, peer_peer⟩

theorem partner_val (c : Dev nD) : (4 * ((c.val / 4) % 4) + (c.val % 4) + 16) - 16 * (c.val / 16) = (peer c).val := by
  have := c.isLt; simp only [peer, nD] at *; omega

/-- The device the barrier's signal goes to is the partner. -/
theorem dev1_eq (c : Dev nD) : (⟨k0_dev1 c, k0_dev1_lt c⟩ : Dev nD) = peer c :=
  Fin.ext ((k0_dev1_eq c).trans (partner_val c))

/-- Every chunk goes to the partner. -/
theorem dstOf_eq (c : Dev nD) (i : Fin 8) : dstOf c i = peer c := by
  apply Fin.ext
  fin_cases i
  · exact (k0_dev2_eq c).trans (partner_val c)
  · exact (k0_dev3_eq c).trans (partner_val c)
  · exact (k0_dev4_eq c).trans (partner_val c)
  · exact (k0_dev5_eq c).trans (partner_val c)
  · exact (k0_dev6_eq c).trans (partner_val c)
  · exact (k0_dev7_eq c).trans (partner_val c)
  · exact (k0_dev8_eq c).trans (partner_val c)
  · exact (k0_dev9_eq c).trans (partner_val c)

/-! ## Which chunk an element lies in -/

/-- The chunk of an element. -/
def chunkOf (x : S2x512x2048.Idx) : Fin 8 :=
  ⟨2 * ((x 1).val / 128) + (x 0).val, by
    have h0 : (x 0).val < 2 := (x 0).isLt
    have h1 : (x 1).val < 512 := (x 1).isLt
    omega⟩

/-- Its place inside the chunk. -/
def inChunk (x : S2x512x2048.Idx) : S1x128x2048.Idx := fun a => match a with
  | 0 => (0 : Fin 1)
  | 1 => (⟨(x 1).val % 128, Nat.mod_lt _ (by decide)⟩ : Fin 128)
  | 2 => (x 2 : Fin 2048)

theorem chunk_emb_val (i : Fin 8) (j : S1x128x2048.Idx) (a : Fin 3) : ((chunk i).emb j a).val = off i a + (j a).val := by
  show off i a + 1 * (j a).val = _
  rw [Nat.one_mul]

theorem chunkOf_emb (i : Fin 8) (j : S1x128x2048.Idx) : chunkOf ((chunk i).emb j) = i := by
  apply Fin.ext
  have h0 := chunk_emb_val i j 0
  have h1 := chunk_emb_val i j 1
  have e0 : (j 0).val < 1 := (j 0).isLt
  have e1 : (j 1).val < 128 := (j 1).isLt
  have hi := i.isLt
  show 2 * (((chunk i).emb j 1).val / 128) + ((chunk i).emb j 0).val = i.val
  rw [h0, h1]
  show 2 * ((128 * (i.val / 2) + (j 1).val) / 128) + (i.val % 2 + (j 0).val) = i.val
  omega

theorem inChunk_emb (i : Fin 8) (j : S1x128x2048.Idx) : inChunk ((chunk i).emb j) = j := by
  funext a
  apply Fin.ext
  have h1 := chunk_emb_val i j 1
  have h2 := chunk_emb_val i j 2
  have e0 : (j 0).val < 1 := (j 0).isLt
  have e1 : (j 1).val < 128 := (j 1).isLt
  match a with
  | 0 => show 0 = (j 0).val; omega
  | 1 =>
    show ((chunk i).emb j 1).val % 128 = (j 1).val
    rw [h1]
    show (128 * (i.val / 2) + (j 1).val) % 128 = _
    omega
  | 2 =>
    show ((chunk i).emb j 2).val = (j 2).val
    rw [h2]
    show 0 + (j 2).val = _
    omega

theorem emb_inChunk (x : S2x512x2048.Idx) : (chunk (chunkOf x)).emb (inChunk x) = x := by
  funext a
  apply Fin.ext
  rw [chunk_emb_val]
  have h0 : (x 0).val < 2 := (x 0).isLt
  have h1 : (x 1).val < 512 := (x 1).isLt
  match a with
  | 0 => show (2 * ((x 1).val / 128) + (x 0).val) % 2 + 0 = (x 0).val; omega
  | 1 => show 128 * ((2 * ((x 1).val / 128) + (x 0).val) / 2) + (x 1).val % 128 = (x 1).val; omega
  | 2 => show 0 + (x 2).val = (x 2).val; omega

theorem mem_chunk (i : Fin 8) (x : S2x512x2048.Idx) : x ∈ (chunk i).set ↔ chunkOf x = i := by
  rw [← Rect.map_emb_univ, Finset.mem_map]
  constructor
  · rintro ⟨j, -, rfl⟩; exact chunkOf_emb i j
  · rintro rfl; exact ⟨inChunk x, Finset.mem_univ _, emb_inChunk x⟩

theorem chunk_disjoint (i i' : Fin 8) (h : i ≠ i') : Disjoint (chunk i).set (chunk i').set :=
  Finset.disjoint_left.mpr fun x hx hx' => h (((mem_chunk i x).mp hx).symm.trans ((mem_chunk i' x).mp hx'))

theorem chunk_cover : (Finset.univ : Finset (Fin 8)).biUnion (fun i => (chunk i).set) = Finset.univ :=
  Finset.eq_univ_iff_forall.mpr fun x => Finset.mem_biUnion.mpr ⟨chunkOf x, Finset.mem_univ _, (mem_chunk _ x).mpr rfl⟩

/-! ## The same for the two batches -/

/-- The batch of an element, and its place inside. -/
def batchOf (x : S2x512x2048.Idx) : Fin 2 := x 0
def inBatch (x : S2x512x2048.Idx) : S1x512x2048.Idx := fun a => match a with
  | 0 => (0 : Fin 1)
  | 1 => (x 1 : Fin 512)
  | 2 => (x 2 : Fin 2048)

theorem slab_emb_val (b : Fin 2) (j : S1x512x2048.Idx) (a : Fin 3) : ((slab b).emb j a).val = boff b a + (j a).val := by
  show boff b a + 1 * (j a).val = _
  rw [Nat.one_mul]

theorem batchOf_emb (b : Fin 2) (j : S1x512x2048.Idx) : batchOf ((slab b).emb j) = b := by
  apply Fin.ext
  have e0 : (j 0).val < 1 := (j 0).isLt
  show ((slab b).emb j 0).val = b.val
  rw [slab_emb_val]
  show b.val + (j 0).val = b.val
  omega

theorem inBatch_emb (b : Fin 2) (j : S1x512x2048.Idx) : inBatch ((slab b).emb j) = j := by
  funext a
  apply Fin.ext
  have h1 := slab_emb_val b j 1
  have h2 := slab_emb_val b j 2
  have e0 : (j 0).val < 1 := (j 0).isLt
  match a with
  | 0 => show 0 = (j 0).val; omega
  | 1 =>
    show ((slab b).emb j 1).val = (j 1).val
    rw [h1]
    show 0 + (j 1).val = _
    omega
  | 2 =>
    show ((slab b).emb j 2).val = (j 2).val
    rw [h2]
    show 0 + (j 2).val = _
    omega

theorem emb_inBatch (x : S2x512x2048.Idx) : (slab (batchOf x)).emb (inBatch x) = x := by
  funext a
  apply Fin.ext
  rw [slab_emb_val]
  match a with
  | 0 => show (x 0).val + 0 = (x 0).val; omega
  | 1 => show 0 + (x 1).val = (x 1).val; omega
  | 2 => show 0 + (x 2).val = (x 2).val; omega

/-! ## What the devices compute -/

/-- The contents of every device's two operands. -/
structure Operands (F : FTy → Type) where
  o : Dev nD → S2x1024x1024.Idx → Elt F .f32
  w : Dev nD → S1024x2048.Idx → Elt F .f32

variable (X : Operands F)

/-- The weight as a step reads it. -/
def wRead (c : Dev nD) : Vec F S1024x2048 .f32 := fun j => X.w c (wrect.emb j)

/-- What device `c` puts in chunk `i` of its send buffer. -/
def sent (c : Dev nD) (i : Fin 8) : FVec F S1x128x2048 .bf16 := sendVal (fun j => X.o c ((orect c i).emb j)) (wRead X c)

/-- What device `c` computes for itself, before anything arrives. -/
def own (c : Dev nD) : S2x512x2048.Idx → Elt F .f32 := fun x =>
  ownVal (fun j => X.o c ((ownrect c (batchOf x)).emb j)) (wRead X c) (inBatch x)

/-- The result while the chunks of `l` have yet to be added: the partner's chunk added elsewhere. -/
def partly (c : Dev nD) (l : List (Fin 8)) : S2x512x2048.Idx → Elt F .f32 := fun x =>
  if chunkOf x ∈ l then own X c x
  else addVal (fun j => own X c ((chunk (chunkOf x)).emb j)) (sent X (peer c) (chunkOf x)) (inChunk x)

/-- The result. -/
def result (c : Dev nD) : S2x512x2048.Idx → Elt F .f32 := partly X c []

theorem partly_all (c : Dev nD) : partly X c chunks = own X c := by
  funext x
  unfold partly
  rw [if_pos]
  exact (by decide : ∀ i : Fin 8, i ∈ chunks) _

theorem partly_emb (c : Dev nD) (l : List (Fin 8)) (i : Fin 8) :
    (fun j => partly X c (i :: l) ((chunk i).emb j)) = fun j => own X c ((chunk i).emb j) := by
  funext j
  unfold partly
  rw [if_pos (by rw [chunkOf_emb]; exact List.mem_cons_self)]

/-- Adding chunk `i` takes it off the list. -/
theorem partly_write (c : Dev nD) (l : List (Fin 8)) (i : Fin 8) (hi : i ∉ l) :
    (outM.access (chunk i)).write (Elt F) (partly X c (i :: l))
        (addVal (fun j => own X c ((chunk i).emb j)) (sent X (peer c) i)) Finset.univ
      = partly X c l := by
  funext x
  by_cases hx : chunkOf x = i
  · have he : (outM.access (chunk i)).emb (inChunk x) = x := by rw [← hx]; exact emb_inChunk x
    have h := View.write_emb_of_mem (v := outM.access (chunk i)) (Val := Elt F) (partly X c (i :: l))
      (addVal (fun j => own X c ((chunk i).emb j)) (sent X (peer c) i)) (Finset.mem_univ (inChunk x))
    rw [he] at h
    refine h.trans ?_
    unfold partly
    rw [hx, if_neg hi]
    rfl
  · have h := View.write_of_not_mem (v := outM.access (chunk i)) (Val := Elt F) (partly X c (i :: l))
      (addVal (fun j => own X c ((chunk i).emb j)) (sent X (peer c) i)) Finset.univ (i := x) (by
        intro hm
        refine hx ((mem_chunk i x).mp ?_)
        have := View.set_slice_whole cc0_stg2_0 (chunk i)
        exact this ▸ hm)
    refine h.trans ?_
    unfold partly
    simp only [List.mem_cons, hx, false_or]

/-- The result buffer while the batches of `l` have yet to be computed over what it held. -/
def owning (c : Dev nD) (f : S2x512x2048.Idx → Elt F .f32) (l : List (Fin 2)) : S2x512x2048.Idx → Elt F .f32 := fun x =>
  if batchOf x ∈ l then f x else own X c x

theorem owning_all (c : Dev nD) (f : S2x512x2048.Idx → Elt F .f32) : owning X c f [0, 1] = f := by
  funext x
  unfold owning
  rw [if_pos]
  exact (by decide : ∀ i : Fin 2, i ∈ [(0 : Fin 2), 1]) _

theorem owning_none (c : Dev nD) (f : S2x512x2048.Idx → Elt F .f32) : owning X c f [] = own X c := by
  funext x
  unfold owning
  rw [if_neg List.not_mem_nil]

theorem own_of_batch (c : Dev nD) (x : S2x512x2048.Idx) (b : Fin 2) (hx : batchOf x = b) :
    own X c x = ownVal (fun j => X.o c ((ownrect c b).emb j)) (wRead X c) (inBatch x) := by
  rw [← hx]; rfl

theorem mem_slab (b : Fin 2) (x : S2x512x2048.Idx) (hx : x ∈ (slab b).set) : batchOf x = b := by
  rw [← Rect.map_emb_univ, Finset.mem_map] at hx
  obtain ⟨j, -, rfl⟩ := hx
  exact batchOf_emb b j

/-- Computing batch `b` takes it off the list. -/
theorem owning_write (c : Dev nD) (f : S2x512x2048.Idx → Elt F .f32) (l : List (Fin 2)) (b : Fin 2) (hb : b ∉ l) :
    (outM.access (slab b)).write (Elt F) (owning X c f (b :: l))
        (ownVal (fun j => X.o c ((ownrect c b).emb j)) (wRead X c)) Finset.univ
      = owning X c f l := by
  funext x
  by_cases hx : batchOf x = b
  · have he : (outM.access (slab b)).emb (inBatch x) = x := by rw [← hx]; exact emb_inBatch x
    have h := View.write_emb_of_mem (v := outM.access (slab b)) (Val := Elt F) (owning X c f (b :: l))
      (ownVal (fun j => X.o c ((ownrect c b).emb j)) (wRead X c)) (Finset.mem_univ (inBatch x))
    rw [he] at h
    refine h.trans ?_
    unfold owning
    rw [hx, if_neg hb, own_of_batch X c x b hx]
    rfl
  · have h := View.write_of_not_mem (v := outM.access (slab b)) (Val := Elt F) (owning X c f (b :: l))
      (ownVal (fun j => X.o c ((ownrect c b).emb j)) (wRead X c)) Finset.univ (i := x) (by
        intro hm
        refine hx (mem_slab b x ?_)
        have := View.set_slice_whole cc0_stg2_0 (slab b)
        exact this ▸ hm)
    refine h.trans ?_
    unfold owning
    simp only [List.mem_cons, hx, false_or]

end Cert.KernelIdeal.Exchange
-- ==== Proof.KernelIdeal.Proto.lean ====
/-
  The protocol between the two devices of a pair.

  Every device has a barrier cell, and for each chunk a send cell and a receive cell.  Each cell has one round with one
  duty.  The partner pays the barrier cell with its whole receive buffer, chunk by chunk.  A device's own copy of chunk
  `i` pays its send cell `i` with the send buffer's chunk, and the partner's receive cell `i` with the partner's receive
  buffer's chunk, holding what was sent.
-/
module

public import proofs.«01_k».proof.Proof.KernelIdeal.Geometry
public import Idealize.ShloMosaic.Lib.Pipeline.Regions
public import Idealize.ShloMosaic.Lib.Pipeline.Kit
public import Idealize.ShloMosaic.Lib.Pipeline.BigSepL
public import Idealize.ShloMosaic.Lib.Rounds
public import Idealize.ShloMosaic.Lib.Rounds.Family
public import Idealize.ShloMosaic.Lib.StableHlo
public import Idealize.ShloMosaic.Lib.Tactic
public import Idealize.ShloMosaic.Lib.Pipeline.RegionTalk

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's resources beside the protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Cells -/

/-- A semaphore of the protocol: the barrier's, or chunk `i`'s send (`false`) or receive (`true`) semaphore. -/
abbrev Slot : Type := Option (Bool × Fin 8)
abbrev bar : Slot := none
abbrev snd (i : Fin 8) : Slot := some (false, i)
abbrev rcv (i : Fin 8) : Slot := some (true, i)

abbrev semOf : Slot → SemLoc sig
  | none => .reg barrier0
  | some (false, i) => .dma (sendSem i)
  | some (true, i) => .dma (recvSem i)

/-- Which semaphore of the protocol a semaphore is. -/
def slotOf : SemLoc sig → Option Slot
  | .reg _ => some none
  | .dma s =>
    if h : 11 ≤ s.val ∧ s.val < 19 then some (some (true, ⟨s.val - 11, by omega⟩))
    else if h : 3 ≤ s.val ∧ s.val < 11 then some (some (false, ⟨s.val - 3, by omega⟩))
    else none

theorem slotOf_semOf : ∀ k : Slot, slotOf (semOf k) = some k := by decide

theorem semOf_inj : Function.Injective semOf := fun k k' h =>
  Option.some.inj ((slotOf_semOf k).symm.trans ((congrArg slotOf h).trans (slotOf_semOf k')))

abbrev cell (c : Dev nD) (k : Slot) : GSem nD τ sig := ((c : Thread nD τ), semOf k)

theorem cell_inj {c c' : Dev nD} {k k' : Slot} (h : cell c k = cell c' k') : c = c' ∧ k = k' :=
  ⟨congrArg (fun g : GSem nD τ sig => g.1.1) h, semOf_inj (congrArg Prod.snd h)⟩

/-! ## Chunks held -/

/-- Chunk `i` of a bf16 buffer of device `c`, holding `f` there. -/
abbrev chPts (c : Dev nD) (b : Memref sig .tc .vmem S2x512x2048 .bf16) (i : Fin 8) (f : b.view.ty.Contents (Elt F)) : sProp 𝕄 :=
  b.view.loc (c : Thread nD τ) ↦[(b.view.slice (chunk i)).set]{fullShare} f

/-- At contents not chosen. -/
abbrev chAny (c : Dev nD) (b : Memref sig .tc .vmem S2x512x2048 .bf16) (i : Fin 8) : sProp 𝕄 := iprop(∃ f, chPts c b i f)

variable (X : Operands F)

/-- The receive buffer's chunk holding what the partner sent. -/
def landed (c : Dev nD) (i : Fin 8) : sProp 𝕄 :=
  iprop(∃ f, ⌜(rM.access (chunk i)).read (Elt F) f = sent X (peer c) i⌝ ∗ chPts c rM i f)

/-- What a barrier cell is paid: the partner's receive buffer, and that its receive cells are open. -/
def barPay (c : Dev nD) : sProp 𝕄 :=
  iprop((bigSep Finset.univ fun i => chAny (peer c) rM i) ∗ bigSep Finset.univ fun i => reached ER (cell (peer c) (rcv i)) 0)

/-! ## The schedule -/

/-- The units of one chunk's copy. -/
abbrev N : ℕ := (piece rM 0).view.dmaCredit

theorem N_pos : 0 < N := View.dmaCredit_pos _ (by decide)

def units : Slot → ℕ
  | none => 1
  | some _ => N

def pay (c : Dev nD) : Slot → sProp 𝕄
  | none => barPay c
  | some (false, i) => chAny c sM i
  | some (true, i) => landed X c i

instance pay_storable (c : Dev nD) (k : Slot) : BI.Storable (upEmb : UEmb _ 𝕄) (pay X c k) := by
  unfold pay barPay landed
  split <;> infer_instance

def sched : Rounds.Schedule (GSem nD τ sig) Unit 𝕄 where
  duties g r := if r = 0 ∧ g.1.2 = .tc ∧ (slotOf g.2).isSome then {()} else ∅
  unitless _ := False
  amount g _ _ := units ((slotOf g.2).getD none)
  payload g _ _ := pay X g.1.1 ((slotOf g.2).getD none)
  amount_pos g _ _ _ := by
    cases (slotOf g.2).getD none with
    | none => exact Nat.one_pos
    | some _ => exact N_pos

instance sched_storable (g : GSem nD τ sig) (r : ℕ) (d : Unit) : BI.Storable (upEmb : UEmb _ 𝕄) ((sched X).payload g r d) :=
  pay_storable X g.1.1 _

theorem duties_cell (c : Dev nD) (k : Slot) : (sched X).duties (cell c k) 0 = {()} := by
  dsimp only [sched]; rw [slotOf_semOf]; exact if_pos ⟨rfl, rfl, rfl⟩
theorem mem_duties (c : Dev nD) (k : Slot) : () ∈ (sched X).duties (cell c k) 0 := by
  rw [duties_cell]; exact Finset.mem_singleton_self _
theorem duties_later (g : GSem nD τ sig) (r : ℕ) (hr : 1 ≤ r) : (sched X).duties g r = ∅ := by
  dsimp only [sched]; exact if_neg fun h => by omega
theorem amount_cell (c : Dev nD) (k : Slot) (u : Unit) : (sched X).amount (cell c k) 0 u = units k := by
  dsimp only [sched]; rw [slotOf_semOf]; rfl
theorem payload_cell (c : Dev nD) (k : Slot) (u : Unit) : (sched X).payload (cell c k) 0 u = pay X c k := by
  dsimp only [sched]; rw [slotOf_semOf]; rfl
theorem expect_cell (c : Dev nD) (k : Slot) : (sched X).expect (cell c k) 0 = units k := by
  unfold Schedule.expect Schedule.amountOf; rw [duties_cell, Finset.sum_singleton, amount_cell]
theorem rest_cell (c : Dev nD) (k : Slot) :
    bigSep ((sched X).duties (cell c k) 0 \ ∅) (fun u => (sched X).payload (cell c k) 0 u) = pay X c k := by
  rw [Finset.sdiff_empty, duties_cell, bigSep_singleton, payload_cell]

/-! ## What a device owes, and the levels of its waits -/

/-- The units still owed to the partner's receive cells for the chunks of `l`. -/
def debt (c : Dev nD) : List (Fin 8) → CellTallies nD τ sig Unit
  | [] => 0
  | i :: l => debt c l + tallyAt (cell (peer c) (rcv i)) () N

/-- What a device owes at the start. -/
def O₀ (c : Dev nD) : CellTallies nD τ sig Unit := debt c chunks + tallyAt (cell (peer c) bar) () 1

def L (g : GSem nD τ sig) : Finset Unit := if g.1.2 = .tc then {()} else ∅

def rank : Slot → ℕ
  | none => 1
  | some (true, _) => 2
  | some (false, _) => 0

/-- Barriers below receives. -/
def lv (g : GSem nD τ sig) (_ : Unit) : ℕ := ((slotOf g.2).map rank).getD 0

theorem L_of_ne (g : GSem nD τ sig) (h : g.1.2 ≠ .tc) : L g = ∅ := if_neg h
theorem L_cell (c : Dev nD) (u : Unit) : ∀ sm : SemLoc sig, u ∈ L ((c : Thread nD τ), sm) := fun sm => by
  unfold L; rw [if_pos rfl]; exact Finset.mem_singleton_self _
theorem lv_cell (c : Dev nD) (k : Slot) (u : Unit) : lv (cell c k) u = rank k := by
  unfold lv; rw [slotOf_semOf]; rfl

theorem debt_pos {c : Dev nD} {l : List (Fin 8)} {g : GSem nD τ sig} {u : Unit} (h : 0 < debt c l g u) :
    ∃ i, g = cell (peer c) (rcv i) := by
  induction l with
  | nil => exact absurd h (Nat.lt_irrefl 0)
  | cons i l ih =>
    unfold debt at h
    rw [Pi.add_apply, Finsupp.add_apply] at h
    rcases Nat.add_pos_iff_pos_or_pos.mp h with h | h
    · exact ih h
    · rw [tallyAt_apply] at h
      split at h
      · next hg => exact ⟨i, hg.1⟩
      · exact absurd h (Nat.lt_irrefl 0)

theorem O₀_pos {c : Dev nD} {g : GSem nD τ sig} {u : Unit} (h : 0 < O₀ c g u) :
    ∃ k, g = cell (peer c) k ∧ 0 < rank k := by
  unfold O₀ at h
  rw [Pi.add_apply, Finsupp.add_apply] at h
  rcases Nat.add_pos_iff_pos_or_pos.mp h with h | h
  · obtain ⟨i, hi⟩ := debt_pos h
    exact ⟨rcv i, hi, Nat.two_pos⟩
  · rw [tallyAt_apply] at h
    split at h
    · next hg => exact ⟨bar, hg.1, by decide⟩
    · exact absurd h (Nat.lt_irrefl 0)

/-- A device may wait at its barrier while it owes the copies. -/
theorem mayWait_bar (c : Dev nD) (l : List (Fin 8)) :
    (levAts L lv : sProp 𝕄) ⊢ MayWait (c : Thread nD τ) (semOf bar) () (debt c l) :=
  MayOwe.of_cut (L := L) (lev := lv) 1
    (fun p hp => by rw [Finset.mem_singleton.mp hp]; exact L_cell c () _)
    (fun g u hg => by obtain ⟨i, rfl⟩ := debt_pos hg; exact L_cell _ _ _)
    (fun p hp => by rw [Finset.mem_singleton.mp hp]; exact le_of_eq (lv_cell c bar ()))
    (fun g u hg => by
      obtain ⟨i, rfl⟩ := debt_pos hg
      rw [lv_cell]; exact Nat.one_lt_two)

end Cert.KernelIdeal.Exchange
-- ==== Proof.KernelIdeal.Steps.lean ====
/-
  One step of each of the body's loops, and the rule that runs a loop from its step.
-/
module

public import proofs.«01_k».proof.Proof.KernelIdeal.Proto
public import Idealize.ShloMosaic.Lib.Writes

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running a program of device `c` to a postcondition. -/
abbrev runs (c : Dev nD) (p : P F) (Q : PUnit → sProp 𝕄) : sProp 𝕄 :=
  wp frame (wpE (defs₀ (F := F)) 𝒱₀ (c : Thread nD τ) none) Set.univ p Q

/-! ## The rule of a loop -/

/-- A loop over a list without repetitions, from its step: `S` is what the remaining list says, `pre` what an element's
    step takes and `post` what it leaves. -/
theorem runs_each {α : Type} (c : Dev nD) (f : α → P F) (S : List α → sProp 𝕄) (pre post : α → sProp 𝕄)
    (step : ∀ a l, a ∉ l → iprop(S (a :: l) ∗ pre a) ⊢ runs c (f a) fun _ => iprop(S l ∗ post a)) :
    ∀ l : List α, l.Nodup → iprop(S l ∗ bigSepL l pre) ⊢ runs c (each f l) fun _ => iprop(S [] ∗ bigSepL l post)
  | [], _ => by
    show _ ⊢ runs c (.ret ⟨⟩) _
    unfold runs
    rw [wp_ret]
    iintro H; imodintro; iexact H
  | a :: l, h => by
    show _ ⊢ runs c (f a >>= fun _ => each f l) _
    unfold runs
    rw [wp_bind, bigSepL_cons', bigSepL_cons']
    iintro ⟨HS, Ha, Hl⟩
    iapply (wp_mono frame _ Set.univ (p := f a) (Q := fun _ => iprop((S l ∗ post a) ∗ bigSepL l pre)) (fun _ => by
      iintro ⟨⟨HS, Hp⟩, Hl⟩
      iapply (wp_mono frame _ Set.univ (p := each f l) (Q := fun _ => iprop((S [] ∗ bigSepL l post) ∗ post a)) (fun _ => by
        iintro ⟨⟨HS, Hl⟩, Hp⟩
        isplitl [HS]; · iexact HS
        isplitl [Hp]; · iexact Hp
        iexact Hl))
      iapply (wp_frame_r frame _ Set.univ)
      isplitr [Hp]
      · iapply (runs_each c f S pre post step l (List.nodup_cons.mp h).2)
        isplitl [HS]; · iexact HS
        iexact Hl
      iexact Hp))
    iapply (wp_frame_r frame _ Set.univ)
    isplitr [Hl]
    · iapply (step a l (List.nodup_cons.mp h).1)
      isplitl [HS]; · iexact HS
      iexact Ha
    iexact Hl

/-! ## Pieces -/

theorem piece_set (b : Memref sig .tc .vmem S2x512x2048 .bf16) (i : Fin 8) : (piece b i).view.set = (b.view.slice (chunk i)).set :=
  View.set_reshape _ _

/-- A chunk held is its piece held. -/
theorem piece_pts (c : Dev nD) (b : Memref sig .tc .vmem S2x512x2048 .bf16) (i : Fin 8) (f : b.view.ty.Contents (Elt F)) :
    (((piece b i).view.loc (c : Thread nD τ) ↦[(piece b i).view.set]{fullShare} f : sProp 𝕄)) = chPts c b i f := by
  rw [piece_set]

theorem credit_piece : ∀ i : Fin 8, (piece rM i).view.dmaCredit = N ∧ (piece sM i).view.dmaCredit = N := by decide

/-- What a copy lands is what the source's chunk held. -/
theorem read_landed (i : Fin 8) (fd fs : S2x512x2048.Idx → Elt F .bf16) :
    (rM.access (chunk i)).read (Elt F) ((piece rM i).view.write (Elt F) fd ((piece sM i).view.read (Elt F) fs) Finset.univ)
      = (sM.access (chunk i)).read (Elt F) fs := by
  have h := View.write_reshape_univ (Val := Elt F) (rM.access (chunk i)) squeezes_S1x128x2048_S128x2048.numel_eq fd
    ((piece sM i).view.read (Elt F) fs)
  refine (congrArg ((rM.access (chunk i)).read (Elt F)) h).trans ?_
  rw [View.read_write_univ]
  funext x
  show fs ((sM.access (chunk i)).emb (Shape.reshapeEquiv _ ((Shape.reshapeEquiv _).symm x))) = _
  rw [Equiv.apply_symm_apply]
  rfl

variable (X : Operands F)

/-! ## What every step may use -/

/-- Every cell's invariant, under the names `κ`. -/
def invs (κ : GSem nD τ sig → ℕ) : sProp 𝕄 :=
  bigSep Finset.univ fun p : Dev nD × Slot => cellInv ER (sched X) (κ (cell p.1 p.2)) (cell p.1 p.2)

instance invs_persistent (κ : GSem nD τ sig → ℕ) : BI.Persistent (invs X κ) := by unfold invs; infer_instance

theorem invs_at (κ : GSem nD τ sig → ℕ) (c : Dev nD) (k : Slot) :
    invs X κ ⊢ cellInv ER (sched X) (κ (cell c k)) (cell c k) := by
  unfold invs
  exact bigSep_elim (Finset.mem_univ (c, k))

/-- The two operands, in their staging buffers. -/
def operands (c : Dev nD) : sProp 𝕄 :=
  iprop((((c : Thread nD τ).loc cc0_stg0_0) ↦{fullShare} X.o c) ∗ (((c : Thread nD τ).loc cc0_stg1_0) ↦{fullShare} X.w c))

/-- The result's staging buffer. -/
abbrev outPts (c : Dev nD) (f : S2x512x2048.Idx → Elt F .f32) : sProp 𝕄 := ((c : Thread nD τ).loc cc0_stg2_0) ↦{fullShare} f

/-- What a device owes, whatever it has waited for. -/
abbrev owing (c : Dev nD) (O : CellTallies nD τ sig Unit) : sProp 𝕄 := iprop(∃ W, owes (c : Thread nD τ) O W)

theorem pay_bar (c : Dev nD) : pay X c bar = barPay c := rfl
theorem pay_rcv (c : Dev nD) (i : Fin 8) : pay X c (rcv i) = landed X c i := rfl
theorem pay_snd (c : Dev nD) (i : Fin 8) : pay X c (snd i) = chAny c sM i := rfl

/-! ## The steps -/

/-- What the send of chunk `i` takes. -/
def sendPre (c : Dev nD) (i : Fin 8) : sProp 𝕄 :=
  iprop(chAny c sM i ∗ chAny (peer c) rM i
    ∗ dutyTok ER (cell c (snd i)) 0 () ∗ reached ER (cell c (snd i)) 0
    ∗ dutyTok ER (cell (peer c) (rcv i)) 0 () ∗ reached ER (cell (peer c) (rcv i)) 0)

/-- The send buffer's chunk pays the own send cell. -/
theorem pays_snd (c : Dev nD) (i : Fin 8) (f : S2x512x2048.Idx → Elt F .bf16) :
    ((piece sM i).view.loc (c : Thread nD τ) ↦[(piece sM i).view.set]{fullShare} f)
      ⊢ (sched X).payload (cell c (snd i)) 0 () := by
  rw [payload_cell, pay_snd, piece_pts]
  iintro H; iexists f; iexact H

/-- The partner's receive buffer, once the copy landed there, pays the partner's receive cell. -/
theorem pays_rcv (c : Dev nD) (i : Fin 8) (fs fd : S2x512x2048.Idx → Elt F .bf16) :
    ((piece rM i).view.loc (peer c : Thread nD τ) ↦[(piece rM i).view.set]{fullShare}
        (piece rM i).view.write (Elt F) fd ((piece sM i).view.read (Elt F)
          ((sM.access (chunk i)).write (Elt F) fs (sent X c i) Finset.univ)) Finset.univ)
      ⊢ (sched X).payload (cell (peer c) (rcv i)) 0 () := by
  rw [payload_cell, pay_rcv, piece_pts]
  unfold landed
  iintro H; iexists _; isplitr [H]
  · ipureintro
    have h := View.read_write_univ (v := sM.access (chunk i)) (Val := Elt F) fs (sent X c i)
    rw [peer_peer]
    exact (read_landed i fd _).trans h
  iexact H

set_option maxHeartbeats 1000000 in
theorem send_step (κ : GSem nD τ sig → ℕ) (c : Dev nD) (i : Fin 8) (l : List (Fin 8)) :
    iprop((invs X κ ∗ operands X c ∗ owing c (debt c (i :: l))) ∗ sendPre c i)
      ⊢ runs c (sendStep (F := F) c i) fun _ => iprop((invs X κ ∗ operands X c ∗ owing c (debt c l)) ∗ cred (tallyAt (cell c (snd i)) () N)) := by
  unfold runs sendStep operands sendPre
  rw [dstOf_eq]
  unfold sendTo
  simp only [Prog.lift, Prog.bind_op, Prog.bind_ret]
  iintro ⟨⟨#HI, ⟨Ho, Hw⟩, ⟨%W, HO⟩⟩, ⟨%fs, Hs⟩, ⟨%fr, Hr⟩, HtS, #HrS, HtR, #HrR⟩
  iapply (wp_load_rect 𝒱₀ (c : Thread nD τ) none Set.univ (m := oM) (r := orect c i) (S := Finset.univ) (Finset.subset_univ _)) $$ Ho
  iintro Ho
  iapply (wp_load_rect 𝒱₀ (c : Thread nD τ) none Set.univ (m := wM) (r := wrect) (S := Finset.univ) (Finset.subset_univ _)) $$ Hw
  iintro Hw
  iapply (wp_load_rect 𝒱₀ (c : Thread nD τ) none Set.univ (m := sM) (r := chunk i) subset_rfl) $$ Hs
  iintro Hs
  iapply (wp_store 𝒱₀ (c : Thread nD τ) none Set.univ (m := sM) (r := chunk i) (Mk := Finset.univ) (S := (sM.access (chunk i)).set) subset_rfl) $$ Hs
  iintro Hs
  iapply (Rounds.wp_send_pointsTo 𝒱₀ ER (sched X) (c : Thread nD τ) none (c' := (peer c : Thread nD τ)) (src := piece sM i) (dst := piece rM i)
      (sS := semOf (snd i)) (sem := semOf (rcv i)) (q := fullShare)
      (fs := (sM.access (chunk i)).write (Elt F) fs (sent X c i) Finset.univ) (fd := fr)
      (κ₁ := κ (cell c (snd i))) (κ₂ := κ (cell (peer c) (rcv i)))
      (r₁ := 0) (r₂ := 0) (d₁ := ()) (d₂ := ())
      (mem_duties X c (snd i)) (mem_duties X (peer c) (rcv i))
      () () N (credit_piece i).1 (amount_cell X c (snd i) ()) (amount_cell X (peer c) (rcv i) ()) (debt c l) rfl (W := W)
      (pays_snd X c i _) (pays_rcv X c i fs fr)) $$ [Hs Hr HO HtS HtR]
  · isplitr; · iapply (invs_at X κ c (snd i)) $$ HI
    isplitr; · iapply (invs_at X κ (peer c) (rcv i)) $$ HI
    isplitl [Hs]; · rw [piece_pts]; iexact Hs
    isplitl [Hr]; · rw [piece_pts]; iexact Hr
    isplitl [HO]; · iexact HO
    isplitl [HtS]; · iexact HtS
    isplitr; · iexact HrS
    isplitl [HtR]; · iexact HtR
    iexact HrR
  iintro ⟨Hc, HO⟩
  rw [wp_ret]
  imodintro
  isplitr [Hc]
  · isplitr; · iexact HI
    isplitl [Ho Hw]; · isplitl [Ho] <;> iassumption
    iexists W; iexact HO
  iexact Hc

set_option maxHeartbeats 1000000 in
theorem own_step (c : Dev nD) (f : S2x512x2048.Idx → Elt F .f32) (b : Fin 2) (l : List (Fin 2)) (hb : b ∉ l) :
    iprop((operands X c ∗ outPts c (owning X c f (b :: l))) ∗ emp)
      ⊢ runs c (ownStep (F := F) c b) fun _ => iprop((operands X c ∗ outPts c (owning X c f l)) ∗ emp) := by
  unfold runs ownStep operands
  simp only [Prog.lift, Prog.bind_op, Prog.bind_ret]
  iintro ⟨⟨⟨Ho, Hw⟩, Hout⟩, -⟩
  iapply (wp_load_rect 𝒱₀ (c : Thread nD τ) none Set.univ (m := oM) (r := ownrect c b) (S := Finset.univ) (Finset.subset_univ _)) $$ Ho
  iintro Ho
  iapply (wp_load_rect 𝒱₀ (c : Thread nD τ) none Set.univ (m := wM) (r := wrect) (S := Finset.univ) (Finset.subset_univ _)) $$ Hw
  iintro Hw
  iapply (wp_load_rect 𝒱₀ (c : Thread nD τ) none Set.univ (m := outM) (r := slab b) (S := Finset.univ) (Finset.subset_univ _)) $$ Hout
  iintro Hout
  iapply (wp_store 𝒱₀ (c : Thread nD τ) none Set.univ (m := outM) (r := slab b) (S := Finset.univ) (Finset.subset_univ _)) $$ Hout
  iintro Hout
  rw [wp_ret]
  imodintro
  isplitl [Ho Hw Hout]
  · isplitl [Ho Hw]; · isplitl [Ho] <;> iassumption
    have e : (outM.access (slab b)).write (Elt F) (owning X c f (b :: l))
        (ownVal ((oM.access (ownrect c b)).read (Elt F) (X.o c)) ((wM.access wrect).read (Elt F) (X.w c))) Finset.univ
        = owning X c f l := owning_write X c f l b hb
    iapply (Entails.of_eq (congrArg (outPts c) e)) $$ Hout
  iempintro

/-- Waiting at cell `k` of the own device for its one round. -/
theorem close_cell (κ : GSem nD τ sig → ℕ) (c : Dev nD) (k : Slot) :
    iprop(invs X κ ∗ atPos ER (cell c k) (0 + 1) ∅ 0) ⊢ (|={Set.univ}=> semVal (cell c k) 0 : sProp 𝕄) :=
  (sep_mono_left (invs_at X κ c k)).trans
    (Rounds.cell_close ER (sched X) (Set.mem_univ _) id (fun r hr => duties_later X (cell c k) r hr))

/-- What the wait at one of the own cells takes. -/
def waitPre (c : Dev nD) (k : Slot) : sProp 𝕄 := iprop(atPos ER (cell c k) 0 ∅ 0 ∗ cred (tallyAt (cell c k) () (units k)))

set_option maxHeartbeats 1000000 in
theorem recv_step (κ : GSem nD τ sig → ℕ) (c : Dev nD) (i : Fin 8) (l : List (Fin 8)) (hi : i ∉ l) :
    iprop((invs X κ ∗ outPts c (partly X c (i :: l)) ∗ owing c 0) ∗ waitPre c (rcv i))
      ⊢ runs c (recvStep (F := F) i) fun _ =>
        iprop((invs X κ ∗ outPts c (partly X c l) ∗ owing c 0) ∗ semVal (cell c (rcv i)) 0 ∗ chAny c rM i) := by
  unfold runs recvStep waitPre
  simp only [Prog.lift, Prog.bind_op, Prog.bind_ret]
  iintro ⟨⟨#HI, Hout, ⟨%W, HO⟩⟩, Hat, Hc⟩
  iapply (Rounds.wp_wait_rest_token 𝒱₀ ER (sched X) (c : Thread nD τ) none (sm := semOf (rcv i)) (κ := κ (cell c (rcv i)))
      (wpE_waitDma2_eq 𝒱₀ (c : Thread nD τ) none Set.univ) (Set.mem_univ _) () (O := 0) (W := W) (R := 0) (m := 0) (T := ∅)
      ((Nat.zero_add _).trans ((credit_piece i).1.trans (expect_cell X c (rcv i)).symm))) $$ [Hc HO Hat]
  · isplitr; · iapply (invs_at X κ c (rcv i)) $$ HI
    isplitl [Hc]; · rw [(credit_piece i).1]; iexact Hc
    isplitl [HO]; · iexact HO
    isplitr; · rw [MayWait_zero]; iempintro
    iexact Hat
  iintro ⟨HO, Hat, -, Hpay⟩
  ihave Hp := (Entails.of_eq (rest_cell X c (rcv i))) $$ Hpay
  unfold pay landed
  icases Hp with ⟨%g, %hg, Hr⟩
  iapply (wp_load_rect 𝒱₀ (c : Thread nD τ) none Set.univ (m := outM) (r := chunk i) (S := Finset.univ) (Finset.subset_univ _)) $$ Hout
  iintro Hout
  iapply (wp_load_rect 𝒱₀ (c : Thread nD τ) none Set.univ (m := rM) (r := chunk i) subset_rfl) $$ Hr
  iintro Hr
  iapply (wp_load_rect 𝒱₀ (c : Thread nD τ) none Set.univ (m := outM) (r := chunk i) (S := Finset.univ) (Finset.subset_univ _)) $$ Hout
  iintro Hout
  iapply (wp_store 𝒱₀ (c : Thread nD τ) none Set.univ (m := outM) (r := chunk i) (S := Finset.univ) (Finset.subset_univ _)) $$ Hout
  iintro Hout
  rw [wp_ret]
  imod (close_cell X κ c (rcv i)) $$ [Hat] with Hv
  · isplitr; · iexact HI
    iexact Hat
  imodintro
  isplitl [Hout HO]
  · isplitr; · iexact HI
    isplitl [Hout]
    · have e : (outM.access (chunk i)).write (Elt F) (partly X c (i :: l))
          (addVal ((outM.access (chunk i)).read (Elt F) (partly X c (i :: l))) ((rM.access (chunk i)).read (Elt F) g)) Finset.univ
          = partly X c l := by
        have h : (outM.access (chunk i)).read (Elt F) (partly X c (i :: l)) = fun j => own X c ((chunk i).emb j) := partly_emb X c l i
        rw [hg, h]
        exact partly_write X c l i hi
      iapply (Entails.of_eq (congrArg (outPts c) e)) $$ Hout
    iexists _; iexact HO
  isplitl [Hv]; · iexact Hv
  iexists g; iexact Hr

set_option maxHeartbeats 1000000 in
theorem drain_step (κ : GSem nD τ sig → ℕ) (c : Dev nD) (i : Fin 8) :
    iprop((invs X κ ∗ owing c 0) ∗ waitPre c (snd i))
      ⊢ runs c (drainStep (F := F) i) fun _ => iprop((invs X κ ∗ owing c 0) ∗ semVal (cell c (snd i)) 0 ∗ chAny c sM i) := by
  unfold runs drainStep waitPre
  simp only [Prog.lift]
  iintro ⟨⟨#HI, ⟨%W, HO⟩⟩, Hat, Hc⟩
  iapply (Rounds.wp_wait_rest_token 𝒱₀ ER (sched X) (c : Thread nD τ) none (sm := semOf (snd i)) (κ := κ (cell c (snd i)))
      (wpE_waitDma2_eq 𝒱₀ (c : Thread nD τ) none Set.univ) (Set.mem_univ _) () (O := 0) (W := W) (R := 0) (m := 0) (T := ∅)
      ((Nat.zero_add _).trans ((credit_piece i).2.trans (expect_cell X c (snd i)).symm))) $$ [Hc HO Hat]
  · isplitr; · iapply (invs_at X κ c (snd i)) $$ HI
    isplitl [Hc]; · rw [(credit_piece i).2]; iexact Hc
    isplitl [HO]; · iexact HO
    isplitr; · rw [MayWait_zero]; iempintro
    iexact Hat
  iintro ⟨HO, Hat, -, Hpay⟩
  ihave Hp := (Entails.of_eq ((rest_cell X c (snd i)).trans (pay_snd X c i))) $$ Hpay
  rw [wp_ret]
  imod (close_cell X κ c (snd i)) $$ [Hat] with Hv
  · isplitr; · iexact HI
    iexact Hat
  imodintro
  isplitl [HO]
  · isplitr; · iexact HI
    iexists _; iexact HO
  isplitl [Hv]; · iexact Hv
  iexact Hp

/-- What the barrier takes: the partner's token, the own receive buffer and receive cells, and the own credit. -/
def barrierPre (c : Dev nD) : sProp 𝕄 :=
  iprop(dutyTok ER (cell (peer c) bar) 0 () ∗ reached ER (cell (peer c) bar) 0 ∗ barPay (peer c) ∗ waitPre c bar)

set_option maxHeartbeats 1000000 in
theorem barrier_step (κ : GSem nD τ sig → ℕ) (c : Dev nD) :
    iprop(invs X κ ∗ levAts L lv ∗ owing c (O₀ c) ∗ barrierPre c)
      ⊢ runs c (barrierStep (F := F) c) fun _ => iprop(owing c (debt c chunks) ∗ semVal (cell c bar) 0 ∗ barPay c) := by
  unfold runs barrierStep barrierPre waitPre
  rw [dev1_eq]
  simp only [semSignalWord, semWaitWord, Prog.bind_op, Prog.bind_ret]
  iintro ⟨#HI, #Hlev, ⟨%W, HO⟩, Ht, #HrP, Hpay, Hat, Hc⟩
  iapply (Rounds.wp_signal 𝒱₀ ER (sched X) (c : Thread nD τ) none (dst := (peer c : Thread nD τ)) (sem := barrier0) (r := 0) (d := ())
      (κ := κ (cell (peer c) bar)) (mem_duties X (peer c) bar) (amount_cell X (peer c) bar ()) () (debt c chunks) rfl)
    $$ [HO Ht Hpay]
  · isplitr; · iapply (invs_at X κ (peer c) bar) $$ HI
    isplitl [HO]; · iexact HO
    isplitl [Ht]; · iexact Ht
    isplitl [Hpay]; · iapply (Entails.of_eq ((payload_cell X (peer c) bar ()).trans (pay_bar X (peer c))).symm) $$ Hpay
    iexact HrP
  iintro HO
  iapply (Rounds.wp_wait_rest_token 𝒱₀ ER (sched X) (c : Thread nD τ) none (sm := semOf bar) (κ := κ (cell c bar))
      (wpE_semWait_eq 𝒱₀ (c : Thread nD τ) none Set.univ) (Set.mem_univ _) () (O := debt c chunks) (W := W) (R := 0) (m := 0) (T := ∅)
      ((Nat.zero_add 1).trans (expect_cell X c bar).symm)) $$ [Hc HO Hat]
  · isplitr; · iapply (invs_at X κ c bar) $$ HI
    isplitl [Hc]; · iexact Hc
    isplitl [HO]; · iexact HO
    isplitr; · iapply (mayWait_bar c chunks); iexact Hlev
    iexact Hat
  iintro ⟨HO, Hat, -, Hpay⟩
  ihave Hp := (Entails.of_eq ((rest_cell X c bar).trans (pay_bar X c))) $$ Hpay
  rw [wp_ret]
  imod (close_cell X κ c bar) $$ [Hat] with Hv
  · isplitr; · iexact HI
    iexact Hat
  imodintro
  isplitl [HO]; · iexists _; iexact HO
  isplitl [Hv]; · iexact Hv
  iexact Hp

end Cert.KernelIdeal.Exchange
-- ==== Proof.KernelIdeal.Body.lean ====
/-
  The whole body on one device: the barrier, then the four loops.
-/
module

public import proofs.«01_k».proof.Proof.KernelIdeal.Steps
public import Idealize.ShloMosaic.Harness.Basic

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

/-! ## A buffer is its chunks -/

theorem chunk_sets_disjoint (b : Memref sig .tc .vmem S2x512x2048 .bf16) (i i' : Fin 8) (h : i ≠ i') :
    Disjoint (b.view.slice (chunk i)).set (b.view.slice (chunk i')).set := by
  rw [View.set_slice, View.set_slice]
  exact (Finset.disjoint_map _).mpr (chunk_disjoint i i' h)

theorem chunk_sets_cover (b : Memref sig .tc .vmem S2x512x2048 .bf16) :
    (Finset.univ : Finset (Fin 8)).biUnion (fun i => (b.view.slice (chunk i)).set) = b.view.set := by
  ext x
  simp only [Finset.mem_biUnion, Finset.mem_univ, true_and, View.set_slice]
  constructor
  · rintro ⟨i, hi⟩
    obtain ⟨y, -, rfl⟩ := Finset.mem_map.mp hi
    exact Finset.mem_map_of_mem _ (Finset.mem_univ y)
  · intro hx
    obtain ⟨y, -, rfl⟩ := Finset.mem_map.mp hx
    exact ⟨chunkOf y, Finset.mem_map_of_mem _ ((mem_chunk _ y).mpr rfl)⟩

/-- A whole buffer gives its chunks. -/
theorem split_chunks (c : Dev nD) (b : Memref sig .tc .vmem S2x512x2048 .bf16) :
    iprop(∃ f, b.view.loc (c : Thread nD τ) ↦[b.view.set]{fullShare} f) ⊢ (bigSep Finset.univ fun i => (chAny c b i : sProp 𝕄)) := by
  iintro ⟨%f, H⟩
  iapply (show (b.view.loc (c : Thread nD τ) ↦[b.view.set]{fullShare} f : sProp 𝕄) ⊢ bigSep Finset.univ fun i => chAny c b i from by
    rw [← chunk_sets_cover b, pointsTo_biUnion _ _ (fun i _ i' _ h => chunk_sets_disjoint b i i' h)]
    exact bigSep_mono fun i _ => (show (chPts c b i f : sProp 𝕄) ⊢ chAny c b i from by iintro H; iexists f; iexact H)) $$ H

/-- Its chunks give the whole buffer back. -/
theorem join_chunks (c : Dev nD) (b : Memref sig .tc .vmem S2x512x2048 .bf16) :
    (bigSep Finset.univ fun i => (chAny c b i : sProp 𝕄)) ⊢ iprop(∃ f, b.view.loc (c : Thread nD τ) ↦[b.view.set]{fullShare} f) := by
  have hd : ∀ i ∈ (Finset.univ : Finset (Fin 8)), ∀ i' ∈ (Finset.univ : Finset (Fin 8)), i ≠ i' →
      Disjoint (b.view.slice (chunk i)).set (b.view.slice (chunk i')).set := fun i _ i' _ h => chunk_sets_disjoint b i i' h
  by_cases hn : Nonempty (b.view.ty.Contents (Elt F))
  · refine (bigSep_exists_pi (Y := fun _ : Fin 8 => b.view.ty.Contents (Elt F)) Finset.univ (fun i f => (chPts c b i f : sProp 𝕄))).trans ?_
    iintro ⟨%fs, H⟩
    ihave H' := (pointsTo_biUnion_join (ℓ := b.view.loc (c : Thread nD τ)) (q := fullShare) Finset.univ
      (fun i : Fin 8 => (b.view.slice (chunk i)).set) fs (fs 0) hd) $$ H
    icases H' with ⟨%g, -, H⟩
    iexists g
    rw [← chunk_sets_cover b]
    iexact H
  · rw [bigSep_univ_at _ (0 : Fin 8)]
    iintro ⟨⟨%f, -⟩, -⟩
    exact absurd ⟨f⟩ hn

variable (X : Operands F)

/-! ## Sequencing -/

/-- One program after another, the second with what the first left alone. -/
theorem runs_then {c : Dev nD} {p k : P F} {A B R : sProp 𝕄} {Q : PUnit → sProp 𝕄}
    (h₁ : A ⊢ runs c p fun _ => B) (h₂ : iprop(B ∗ R) ⊢ runs c k Q) : iprop(A ∗ R) ⊢ runs c (p >>= fun _ => k) Q := by
  unfold runs at *
  rw [wp_bind]
  exact (sep_mono_left h₁).trans ((wp_frame_r frame _ Set.univ).trans (wp_mono frame _ Set.univ fun _ => h₂))

theorem runs_last {c : Dev nD} {p : P F} {A B R : sProp 𝕄} {Q : PUnit → sProp 𝕄}
    (h₁ : A ⊢ runs c p fun _ => B) (h₂ : iprop(B ∗ R) ⊢ Q ⟨⟩) : iprop(A ∗ R) ⊢ runs c p Q := by
  unfold runs at *
  exact (sep_mono_left h₁).trans ((wp_frame_r frame _ Set.univ).trans (wp_mono frame _ Set.univ fun _ => h₂))

/-- A loop over the eight chunks. -/
theorem runs_chunks (c : Dev nD) (f : Fin 8 → P F) (S : List (Fin 8) → sProp 𝕄) (pre post : Fin 8 → sProp 𝕄)
    (step : ∀ a l, a ∉ l → iprop(S (a :: l) ∗ pre a) ⊢ runs c (f a) fun _ => iprop(S l ∗ post a)) :
    iprop(S chunks ∗ bigSep Finset.univ pre) ⊢ runs c (each f chunks) fun _ => iprop(S [] ∗ bigSep Finset.univ post) := by
  rw [bigSep_univ_eq_bigSepL chunks (by decide) (by decide), bigSep_univ_eq_bigSepL chunks (by decide) (by decide)]
  exact runs_each c f S pre post step chunks (by decide)

/-- The loop over the two batches. -/
theorem runs_batches (c : Dev nD) (f : S2x512x2048.Idx → Elt F .f32) :
    iprop(operands X c ∗ outPts c f) ⊢ runs c (each (ownStep (F := F) c) [0, 1]) fun _ => iprop(operands X c ∗ outPts c (own X c)) := by
  have h := runs_each c (ownStep (F := F) c) (fun l => iprop(operands X c ∗ outPts c (owning X c f l))) (fun _ => iprop(emp)) (fun _ => iprop(emp))
    (fun b l hb => own_step X c f b l hb) [0, 1] (by decide)
  rw [owning_all, owning_none] at h
  refine BIBase.Entails.trans ?_ (h.trans (wp_mono frame _ Set.univ fun _ => ?_))
  · iintro H
    isplitl [H]; · iexact H
    rw [bigSepL_cons', bigSepL_singleton]
    isplitr <;> iempintro
  · iintro ⟨H, -⟩; iexact H

/-! ## The body -/

/-- The tokens of the duties a device pays at its sends. -/
def sendToks (c : Dev nD) (i : Fin 8) : sProp 𝕄 :=
  iprop(dutyTok ER (cell c (snd i)) 0 () ∗ dutyTok ER (cell (peer c) (rcv i)) 0 ())

/-- What the body takes, the windows and the scratch buffers aside. -/
def talkIn (κ : GSem nD τ sig → ℕ) (c : Dev nD) : sProp 𝕄 :=
  iprop(invs X κ ∗ levAts L lv
    ∗ (dutyTok ER (cell (peer c) bar) 0 () ∗ reached ER (cell (peer c) bar) 0 ∗ waitPre c bar)
    ∗ (bigSep Finset.univ fun i => sendToks c i)
    ∗ (bigSep Finset.univ fun i => reached ER (cell c (snd i)) 0) ∗ (bigSep Finset.univ fun i => reached ER (cell c (rcv i)) 0)
    ∗ (bigSep Finset.univ fun i => waitPre c (rcv i)) ∗ (bigSep Finset.univ fun i => atPos ER (cell c (snd i)) 0 ∅ 0))

/-- The counters it gives back. -/
def talkOut (c : Dev nD) : sProp 𝕄 :=
  iprop(semVal (cell c bar) 0 ∗ (bigSep Finset.univ fun i => semVal (cell c (snd i)) 0) ∗ (bigSep Finset.univ fun i => semVal (cell c (rcv i)) 0))

/-- The two bf16 buffers, by chunks. -/
def scratch (c : Dev nD) : sProp 𝕄 :=
  iprop((bigSep Finset.univ fun i => chAny c sM i) ∗ bigSep Finset.univ fun i => chAny c rM i)

set_option maxHeartbeats 1000000 in
theorem body_run (κ : GSem nD τ sig → ℕ) (c : Dev nD) :
    iprop(talkIn X κ c ∗ scratch c ∗ operands X c ∗ (∃ f, outPts c f) ∗ owing c (O₀ c))
      ⊢ runs c (body (F := F)) fun _ =>
        iprop(talkOut c ∗ scratch c ∗ operands X c ∗ outPts c (result X c) ∗ owing c 0) := by
  show _ ⊢ runs c (.op .deviceId fun d => barrierStep d >>= fun _ => each (sendStep d) chunks >>= fun _ => each (ownStep d) [0, 1] >>= fun _ =>
    each recvStep chunks >>= fun _ => each drainStep chunks) _
  unfold runs
  rw [wp_deviceId]
  unfold talkIn scratch
  iintro ⟨⟨#HI, #Hlev, ⟨HtB, #HrB, HwB⟩, Htoks, #HrS, #HrR, HwR, HatS⟩, ⟨HsM, HrM⟩, Hop, ⟨%f, Hout⟩, HO⟩
  have hB := barrier_step X κ c
  unfold barPay at hB
  iapply (runs_then (c := c) (R := iprop((bigSep Finset.univ fun i => sendToks c i) ∗ (bigSep Finset.univ fun i => waitPre c (rcv i))
      ∗ (bigSep Finset.univ fun i => atPos ER (cell c (snd i)) 0 ∅ 0) ∗ (bigSep Finset.univ fun i => chAny c sM i) ∗ operands X c ∗ outPts c f
      ∗ invs X κ ∗ (bigSep Finset.univ fun i => reached ER (cell c (snd i)) 0)))
    hB ?_)
  · iintro ⟨⟨HO, HvB, ⟨HrM, #HrN⟩⟩, Htoks, HwR, HatS, HsM, Hop, Hout, #HI, #HrS⟩
    iapply (runs_then (c := c) (R := iprop(semVal (cell c bar) 0 ∗ (bigSep Finset.univ fun i => waitPre c (rcv i))
        ∗ (bigSep Finset.univ fun i => atPos ER (cell c (snd i)) 0 ∅ 0) ∗ outPts c f))
      (runs_chunks c (sendStep (F := F) c) (fun l => iprop(invs X κ ∗ operands X c ∗ owing c (debt c l))) (sendPre c)
        (fun i => cred (tallyAt (cell c (snd i)) () N)) (fun i l _ => send_step X κ c i l)) ?_)
    · iintro ⟨⟨⟨#HI, Hop, HO⟩, HcS⟩, HvB, HwR, HatS, Hout⟩
      iapply (runs_then (c := c) (R := iprop(invs X κ ∗ owing c 0 ∗ semVal (cell c bar) 0 ∗ (bigSep Finset.univ fun i => waitPre c (rcv i))
          ∗ bigSep Finset.univ fun i => waitPre c (snd i)))
        (runs_batches X c f) ?_)
      · iintro ⟨⟨Hop, Hout⟩, #HI, HO, HvB, HwR, HwS⟩
        iapply (runs_then (c := c) (R := iprop(operands X c ∗ semVal (cell c bar) 0 ∗ bigSep Finset.univ fun i => waitPre c (snd i)))
          (runs_chunks c (recvStep (F := F)) (fun l => iprop(invs X κ ∗ outPts c (partly X c l) ∗ owing c 0)) (fun i => waitPre c (rcv i))
            (fun i => iprop(semVal (cell c (rcv i)) 0 ∗ chAny c rM i)) (fun i l hi => recv_step X κ c i l hi)) ?_)
        · iintro ⟨⟨⟨#HI, Hout, HO⟩, HvR⟩, Hop, HvB, HwS⟩
          iapply (runs_last (c := c) (R := iprop(operands X c ∗ outPts c (result X c) ∗ semVal (cell c bar) 0
              ∗ bigSep Finset.univ fun i => iprop(semVal (cell c (rcv i)) 0 ∗ chAny c rM i)))
            (runs_chunks c (drainStep (F := F)) (fun _ => iprop(invs X κ ∗ owing c 0)) (fun i => waitPre c (snd i))
              (fun i => iprop(semVal (cell c (snd i)) 0 ∗ chAny c sM i)) (fun i _ _ => drain_step X κ c i)) ?_)
          · iintro ⟨⟨⟨-, HO⟩, HvS⟩, Hop, Hout, HvB, HvR⟩
            ihave HS := bigSep_unpair $$ HvS; icases HS with ⟨HvS, HsM⟩
            ihave HR := bigSep_unpair $$ HvR; icases HR with ⟨HvR, HrM⟩
            unfold talkOut
            isplitl [HvB HvS HvR]
            · isplitl [HvB]; · iexact HvB
              isplitl [HvS] <;> iassumption
            isplitl [HsM HrM]; · isplitl [HsM] <;> iassumption
            isplitl [Hop]; · iexact Hop
            isplitl [Hout]; · iexact Hout
            iexact HO
          isplitl [HO HwS]
          · isplitl [HO]
            · isplitr; · iexact HI
              iexact HO
            iexact HwS
          isplitl [Hop]; · iexact Hop
          isplitl [Hout]; · iexact Hout
          isplitl [HvB] <;> iassumption
        isplitl [Hout HO HwR]
        · isplitl [Hout HO]
          · isplitr; · iexact HI
            isplitl [Hout]; · rw [partly_all]; iexact Hout
            iexact HO
          iexact HwR
        isplitl [Hop]; · iexact Hop
        isplitl [HvB] <;> iassumption
      isplitl [Hop Hout]; · isplitl [Hop] <;> iassumption
      isplitr; · iexact HI
      isplitl [HO]; · iexact HO
      isplitl [HvB]; · iexact HvB
      isplitl [HwR]; · iexact HwR
      unfold waitPre
      iapply bigSep_pair
      isplitl [HatS]; · iexact HatS
      iexact HcS
    isplitl [Hop HO Htoks HsM HrM]
    · isplitl [Hop HO]
      · isplitr; · iexact HI
        isplitl [Hop] <;> iassumption
      unfold sendPre sendToks
      ihave Ht := bigSep_unpair $$ Htoks; icases Ht with ⟨HtS, HtR⟩
      iapply bigSep_pair; isplitl [HsM]; · iexact HsM
      iapply bigSep_pair; isplitl [HrM]; · iexact HrM
      iapply bigSep_pair; isplitl [HtS]; · iexact HtS
      iapply bigSep_pair; isplitr; · iexact HrS
      iapply bigSep_pair; isplitl [HtR]; · iexact HtR
      iexact HrN
    isplitl [HvB]; · iexact HvB
    isplitl [HwR]; · iexact HwR
    isplitl [HatS] <;> iassumption
  isplitl [HO HtB HwB HrM]
  · isplitr; · iexact HI
    isplitr; · iexact Hlev
    isplitl [HO]; · iexact HO
    unfold barrierPre barPay
    rw [peer_peer]
    isplitl [HtB]; · iexact HtB
    isplitr; · iexact HrB
    isplitl [HrM]
    · isplitl [HrM]; · iexact HrM
      iexact HrR
    iexact HwB
  isplitl [Htoks]; · iexact Htoks
  isplitl [HwR]; · iexact HwR
  isplitl [HatS]; · iexact HatS
  isplitl [HsM]; · iexact HsM
  isplitl [Hop]; · iexact Hop
  isplitl [Hout]; · iexact Hout
  isplitr; · iexact HI
  iexact HrS

end Cert.KernelIdeal.Exchange
-- ==== Proof.KernelIdeal.Data.lean ====
/-
  The pipeline's proof data: what the windows hold, what the body keeps between the region's start and its end, and the
  body's obligation, read off the body's run.
-/
module

public import proofs.«01_k».proof.Proof.KernelIdeal.Body
public import proofs.«01_k».proof.Proof.Gen.KernelIdeal.Frame
public import Idealize.ShloMosaic.Lib.Pipeline.ValueKit

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ)

/-! ## The buffers' contents along the program -/

/-- At launch, after the host's reshape, and after the kernel. -/
abbrev V₀ (c : Dev nD) : Valuation τ sig (Elt F) := fun b => m (c, b)
abbrev V₁ (c : Dev nD) : Valuation τ sig (Elt F) := StableHlo.after hostOps0 (V₀ m c)

/-- The operands the kernel is called on. -/
def given : Operands F := ⟨fun c => V₁ m c main_v1, fun c => V₁ m c main_arg1⟩

abbrev V₂ (c : Dev nD) : Valuation τ sig (Elt F) := Function.update (V₁ m c) (Proc.devRef .tc main_v2) (result (given m) c)
theorem V₂_out (c : Dev nD) : V₂ m c main_v2 = result (given m) c := Function.update_self ..
theorem V₂_ne (c : Dev nD) {b : DevRef τ sig} (h : b ≠ Proc.devRef .tc main_v2) : V₂ m c b = V₁ m c b := Function.update_of_ne h ..

theorem index_o : ∀ t : Fin cfg0.N, win0_0.index t = ![0, 0, 0] := (by decide +kernel : ∀ t : Fin grid0.N, win0_0.index t = ![0, 0, 0])
theorem index_w : ∀ t : Fin cfg0.N, win0_1.index t = ![0, 0] := (by decide +kernel : ∀ t : Fin grid0.N, win0_1.index t = ![0, 0])

/-- Each input window's one block is its whole array. -/
theorem block_o (c : Dev nD) (t : Fin cfg0.N) : iblk m c 0 t = (given m).o c := by
  obtain rfl := fin_N0 t
  funext j
  blk_simp [iblk]
  refine congrArg (V₁ m c main_v1) ?_
  blk_ext [index_o]

theorem block_w (c : Dev nD) (t : Fin cfg0.N) : iblk m c 1 t = (given m).w c := by
  obtain rfl := fin_N0 t
  funext j
  blk_simp [iblk]
  refine congrArg (V₁ m c main_arg1) ?_
  blk_ext [index_w]

/-! ## The proof data -/

/-- A scratch buffer no window stages, whole. -/
abbrev wholeAny (c : Dev nD) (b : Memref sig .tc .vmem S2x512x2048 .bf16) : sProp 𝕄 :=
  iprop(∃ f, b.view.loc (c : Thread nD τ) ↦[b.view.set]{fullShare} f)

/-- What the body has before its one point, beside the windows. -/
def before (c : Dev nD) : sProp 𝕄 := iprop((∃ κ, talkIn (given m) κ c) ∗ scratch c ∗ ∃ r, prngReg c r)
/-- And after it. -/
def afterwards (c : Dev nD) : sProp 𝕄 := iprop(talkOut c ∗ scratch c ∗ ∃ r, prngReg c r)

def dat (c : Dev nD) : Dat τ (Elt F) Unit ℕ UU ℕ cfg0 c where
  A w := V₁ m c (Proc.devRef .tc (Pipeline.arrRef spec0 w))
  after := fun | 0 => fun _ => (given m).o c | 1 => fun _ => (given m).w c | 2 => fun _ => result (given m) c
  Φ t := if t.val = 0 then before m c else afterwards c
  q _ := fullShare
  owed t := if t.val = 0 then O₀ c else 0

theorem Φ_first (c : Dev nD) : (dat m c).Φ 0 = before m c := rfl
theorem Φ_last (c : Dev nD) : (dat m c).Φ (Fin.last cfg0.N) = afterwards c := rfl
theorem owed_first (c : Dev nD) : (dat m c).owed 0 = O₀ c := rfl
theorem owed_last (c : Dev nD) : (dat m c).owed (Fin.last cfg0.N) = 0 := rfl

theorem owes_in (c : Dev nD) (t : Fin (cfg0.N + 1)) (O : CellTallies nD τ sig Unit) (h : (dat m c).owed t = O) :
    owing c O ⊢ ((dat m c).owesAt () t : sProp 𝕄) := by
  unfold Dat.owesAt Pipeline.owesWithin Dat.bound
  rw [h]
  iintro ⟨%W, HO⟩
  iexists W
  isplitr; · ipureintro; exact fun _ _ => Or.inl trivial
  iexact HO

theorem owes_out (c : Dev nD) (t : Fin (cfg0.N + 1)) (O : CellTallies nD τ sig Unit) (h : (dat m c).owed t = O) :
    ((dat m c).owesAt () t : sProp 𝕄) ⊢ owing c O := by
  unfold Dat.owesAt Pipeline.owesWithin
  rw [h]
  iintro ⟨%W, -, HO⟩
  iexists W
  iexact HO

/-- The body finds each operand in its window's staging buffer. -/
theorem before_o (c : Dev nD) (t : Fin cfg0.N) (d) : (dat m c).before 0 t d = (given m).o c :=
  ((dat m c).before_in_eq_fetched 0 rfl (fun _ => rfl) (fun _ _ _ => rfl)
    (fun t => by rw [show (dat m c).after 0 t = (given m).o c from rfl, ← block_o m c t]; rfl) t d).trans
    (show (dat m c).fetched 0 t d = _ from block_o m c t)

theorem before_w (c : Dev nD) (t : Fin cfg0.N) (d) : (dat m c).before 1 t d = (given m).w c :=
  ((dat m c).before_in_eq_fetched 1 rfl (fun _ => rfl) (fun _ _ _ => rfl)
    (fun t => by rw [show (dat m c).after 1 t = (given m).w c from rfl, ← block_w m c t]; rfl) t d).trans
    (show (dat m c).fetched 1 t d = _ from block_w m c t)

/-- The array of each window when the region is left. -/
theorem arr_end (c : Dev nD) : ∀ w : Fin 3, (dat m c).arrAt w cfg0.N = V₂ m c (Proc.devRef .tc (Pipeline.arrRef spec0 w))
  | 0 => ((dat m c).arrAt_in 0 rfl _).trans (V₂_ne m c (b := Proc.devRef .tc main_v1) (by decide)).symm
  | 1 => ((dat m c).arrAt_in 1 rfl _).trans (V₂_ne m c (b := Proc.devRef .tc main_arg1) (by decide)).symm
  | 2 => by
    rw [show V₂ m c (Proc.devRef .tc (Pipeline.arrRef spec0 2)) = result (given m) c from V₂_out m c]
    refine (dat m c).arrAt_eq_of_after_last 2 t0_0 (by decide +kernel) _ fun j => ?_
    rfl

set_option maxHeartbeats 1000000 in
theorem obligation (c : Dev nD) : BodyObligation (dat m c) defs₀ 𝒱₀ () Set.univ := fun t => by
  obtain rfl := fin_N0 t
  rw [bigSep_W0, bigSep_W0]
  rw [show (dat m c).Φ t0_0.castSucc = before m c from rfl, show (dat m c).Φ t0_0.succ = afterwards c from rfl]
  unfold before afterwards
  iintro ⟨⟨⟨%κ, HT⟩, Hs, Hp⟩, HO, ⟨%d0, H0⟩, ⟨%d1, H1⟩, ⟨%d2, H2⟩⟩
  rw [before_o m c t0_0 d0, before_w m c t0_0 d1]
  ihave HO := (owes_out m c _ (O₀ c) rfl) $$ HO
  rw [show defs₀ (F := F) .tc cfg0.body (cfg0.bodyArgs t0_0 (cfg0.slots t0_0)) = body from bodyAt_eq t0_0]
  iapply (runs_last (c := c) (R := iprop(∃ r, prngReg c r)) (body_run (given m) κ c) ?_)
  · show _ ⊢ iprop((talkOut c ∗ scratch c ∗ ∃ r, prngReg c r) ∗ (dat m c).owesAt () t0_0.succ
      ∗ owns (c : Thread nD τ) (Memref.whole cc0_stg0_0) fullShare ((given m).o c)
      ∗ owns (c : Thread nD τ) (Memref.whole cc0_stg1_0) fullShare ((given m).w c)
      ∗ owns (c : Thread nD τ) (Memref.whole cc0_stg2_0) fullShare (result (given m) c))
    rw [owns_whole, owns_whole, owns_whole]
    unfold operands
    iintro ⟨⟨Ht, Hs, ⟨H0, H1⟩, H2, HO⟩, Hp⟩
    isplitl [Ht Hs Hp]
    · isplitl [Ht]; · iexact Ht
      isplitl [Hs] <;> iassumption
    isplitl [HO]; · iapply (owes_in m c t0_0.succ 0 rfl) $$ HO
    isplitl [H0]; · iexact H0
    isplitl [H1] <;> iassumption
  isplitr [Hp]
  · isplitl [HT]; · iexact HT
    isplitl [Hs]; · iexact Hs
    unfold operands
    isplitl [H0 H1]
    · isplitl [H0]
      · iapply (Entails.of_eq (owns_whole (c : Thread nD τ) cc0_stg0_0 fullShare ((given m).o c))) $$ H0
      · iapply (Entails.of_eq (owns_whole (c : Thread nD τ) cc0_stg1_0 fullShare ((given m).w c))) $$ H1
    isplitl [H2]
    · iexists _
      iapply (Entails.of_eq (owns_whole (c : Thread nD τ) cc0_stg2_0 fullShare _)) $$ H2
    iexact HO
  iexact Hp

end Cert.KernelIdeal.Exchange
-- ==== Proof.KernelIdeal.Region.lean ====
/-
  The two segments of the program: the host's reshape, and the region that runs the kernel.
-/
module

public import proofs.«01_k».proof.Proof.KernelIdeal.Data

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ)

/-! ## What a device holds besides the windows -/

/-- The arrays of the program. -/
def bufs : Finset (DevRef τ sig) := (StableHlo.tcRefs τ sig).filter fun b => ¬ b.isScoped

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The kernel's own semaphores, one send and one receive semaphore for each chunk. -/
abbrev osem (p : Bool × Fin 8) : SemLoc sig := semOf (some p)

theorem osem_facts : Pipeline.OwnSemFacts spec0 osem := by decide

/-- Anything held of the own semaphores is held of the send semaphores and of the receive semaphores. -/
theorem own_split (Φ : Bool × Fin 8 → sProp 𝕄) :
    bigSep Finset.univ Φ = iprop((bigSep Finset.univ fun i => Φ (false, i)) ∗ bigSep Finset.univ fun i => Φ (true, i)) := by
  rw [bigSep_univ_prod, bigSep_univ_eq_bigSepL [false, true] (by decide) (by decide), bigSepL_cons', bigSepL_singleton]

theorem own_counters (c : Dev nD) :
    (Pipeline.ownSems0 osem c : sProp 𝕄)
      = iprop((bigSep Finset.univ fun i => semVal (cell c (snd i)) 0) ∗ bigSep Finset.univ fun i => semVal (cell c (rcv i)) 0) :=
  own_split fun p => (semVal (cell c (some p)) 0 : sProp 𝕄)

/-- The scratch buffers, whole or by chunks. -/
theorem scratch_whole (c : Dev nD) :
    (Pipeline.scopedRest (Ix := Unit) (Name := ℕ) (U := UU) (Lvl := ℕ) (Val := Elt F) spec0 c : sProp 𝕄)
      = iprop(wholeAny c sM ∗ wholeAny c rM) := by
  rw [scopedRest0_eq]
  unfold wholeAny
  rw [show sM.view.set = Finset.univ from View.set_whole cc0_scratch0, show rM.view.set = Finset.univ from View.set_whole cc0_scratch1]

theorem scratch_split (c : Dev nD) : iprop(wholeAny c sM ∗ wholeAny c rM) ⊢ (scratch c : sProp 𝕄) :=
  BIClass.sep_mono (split_chunks c sM) (split_chunks c rM)
theorem scratch_join (c : Dev nD) : (scratch c : sProp 𝕄) ⊢ iprop(wholeAny c sM ∗ wholeAny c rM) :=
  BIClass.sep_mono (join_chunks c sM) (join_chunks c rM)

/-! ## The ghost state a device brings to the kernel -/

/-- Before its own cells are opened. -/
def kept (c : Dev nD) : sProp 𝕄 :=
  iprop((∃ κ, invs (given m) κ) ∗ (dutyTok ER (cell (peer c) bar) 0 () ∗ reached ER (cell (peer c) bar) 0 ∗ waitPre c bar)
    ∗ (bigSep Finset.univ fun i => sendToks c i)
    ∗ (bigSep Finset.univ fun p : Bool × Fin 8 => openTok ER (cell c (some p)))
    ∗ bigSep Finset.univ fun i => cred (tallyAt (cell c (rcv i)) () N))

/-- Opening one of the device's own cells. -/
theorem open_cell (κ : GSem nD τ sig → ℕ) (c : Dev nD) (p : Bool × Fin 8) :
    iprop(invs (given m) κ ∗ openTok ER (cell c (some p)) ∗ semVal (cell c (some p)) 0)
      ⊢ (|={Set.univ}=> iprop(atPos ER (cell c (some p)) 0 ∅ 0 ∗ reached ER (cell c (some p)) 0) : sProp 𝕄) :=
  (sep_mono_left (invs_at (given m) κ c (some p))).trans (Rounds.cell_open ER (sched (given m)) (Set.mem_univ _))

/-- Opening all of them. -/
theorem open_cells (κ : GSem nD τ sig → ℕ) (c : Dev nD) :
    iprop(invs (given m) κ ∗ (bigSep Finset.univ fun p : Bool × Fin 8 => openTok ER (cell c (some p))) ∗ Pipeline.ownSems0 osem c)
      ⊢ (|={Set.univ}=> iprop((bigSep Finset.univ fun p : Bool × Fin 8 => atPos ER (cell c (some p)) 0 ∅ 0)
          ∗ bigSep Finset.univ fun p : Bool × Fin 8 => reached ER (cell c (some p)) 0) : sProp 𝕄) := by
  have h : iprop(invs (given m) κ ∗ bigSep Finset.univ fun p : Bool × Fin 8 =>
        iprop(openTok ER (cell c (some p)) ∗ semVal (cell c (some p)) 0))
      ⊢ (|={Set.univ}=> bigSep Finset.univ fun p : Bool × Fin 8 =>
          iprop(atPos ER (cell c (some p)) 0 ∅ 0 ∗ reached ER (cell c (some p)) 0) : sProp 𝕄) :=
    (bigSep_with_persistent fun p _ => open_cell m κ c p).trans (bigSep_fupd _ _)
  unfold Pipeline.ownSems0
  iintro ⟨#HI, Ho, Hv⟩
  imod h $$ [Ho Hv] with H
  · isplitr; · iexact HI
    iapply bigSep_pair
    isplitl [Ho] <;> iassumption
  imodintro
  iapply bigSep_unpair $$ H

/-- The region's entry. -/
theorem enter (c : Dev nD) :
    iprop(kept m c ∗ Pipeline.ownSems0 osem c ∗ levAts L lv) ⊢ (|={Set.univ}=> (iprop(∃ κ, talkIn (given m) κ c)) : sProp 𝕄) := by
  unfold kept
  iintro ⟨⟨⟨%κ, #HI⟩, HB, Ht, Ho, Hc⟩, Hv, #Hlev⟩
  imod (open_cells m κ c) $$ [Ho Hv] with ⟨Hat, Hr⟩
  · isplitr; · iexact HI
    isplitl [Ho] <;> iassumption
  imodintro
  iexists κ
  unfold talkIn
  ihave Hat := (Entails.of_eq (own_split fun p => (atPos ER (cell c (some p)) 0 ∅ 0 : sProp 𝕄))) $$ Hat
  ihave Hr := (Entails.of_eq (own_split fun p => (reached ER (cell c (some p)) 0 : sProp 𝕄))) $$ Hr
  icases Hat with ⟨HaS, HaR⟩
  icases Hr with ⟨HrS, HrR⟩
  isplitr; · iexact HI
  isplitr; · iexact Hlev
  isplitl [HB]; · iexact HB
  isplitl [Ht]; · iexact Ht
  isplitl [HrS]; · iexact HrS
  isplitl [HrR]; · iexact HrR
  isplitl [HaR Hc]
  · unfold waitPre
    iapply bigSep_pair
    isplitl [HaR]; · iexact HaR
    iexact Hc
  iexact HaS

/-! ## The region -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

local notation "ℍ" => Pipeline.HostSeg (Name := ℕ) (U := UU) (pcfgs (F := F)) defs₀ 𝒱₀ L lv
local notation "𝕊" => Pipeline.RegionSeg (pcfgs (F := F)) adm (pdats m) () defs₀ 𝒱₀ L lv 0

/-- What rides beside the buffers through the host's segment. -/
def beside (c : Dev nD) : sProp 𝕄 := iprop(kept m c ∗ (∃ r, prngReg c r) ∗ owing c (O₀ c))

theorem ops_sub : ∀ op ∈ (hostOps0 : List (HloOp τ sig (Elt F))), op.bufs ⊆ bufs := fun op h => by
  obtain rfl := List.mem_singleton.mp h
  show ({Proc.devRef .tc main_arg0, Proc.devRef .tc main_v1} : Finset (DevRef τ sig)) ⊆ bufs
  decide

def hostSeg : ℍ :=
  Pipeline.HostSeg.ofOps _ _ _ _ _ bufs hostOps0 ops_sub (List.forall_iff_forall_mem.mp hostOps0_fresh) (V₀ m) (beside m)

/-- The arrays of the windows, and the others. -/
abbrev arrs : Finset (DevRef τ sig) := Pipeline.arrRefs (τ := τ) spec0
theorem arrs_sub : arrs ⊆ bufs := by decide
theorem out_mem : Proc.devRef .tc main_v2 ∈ arrs := by decide

theorem region_in (c : Dev nD) :
    iprop(Pipeline.scopedRest spec0 c ∗ (∃ r, prngReg c r) ∗ StableHlo.held (c.tc : Thread nD τ) ∅ (V₁ m c) ∗ (∃ κ, talkIn (given m) κ c))
      ⊢ ((dat m c).Φ 0 : sProp 𝕄) := by
  rw [Φ_first, scratch_whole]
  unfold before
  iintro ⟨Hs, Hp, -, HT⟩
  isplitl [HT]; · iexact HT
  isplitl [Hs]; · iapply (scratch_split c) $$ Hs
  iexact Hp

theorem region_out (c : Dev nD) :
    ((dat m c).Φ (Fin.last cfg0.N) : sProp 𝕄)
      ⊢ iprop(Pipeline.scopedRest spec0 c ∗ (∃ r, prngReg c r) ∗ StableHlo.held (c.tc : Thread nD τ) ∅ (V₂ m c)
          ∗ Pipeline.ownSems0 osem c ∗ semVal (cell c bar) 0) := by
  rw [Φ_last, scratch_whole, own_counters]
  unfold afterwards talkOut StableHlo.held
  rw [bigSep_empty]
  iintro ⟨⟨Hb, Hv⟩, Hs, Hp⟩
  isplitl [Hs]; · iapply (scratch_join c) $$ Hs
  isplitl [Hp]; · iexact Hp
  isplitr; · iempintro
  isplitl [Hv] <;> iassumption

/-- The staging semaphores lie below everything a device owes. -/
theorem owed_above (c : Dev nD) (t : Fin (cfg0.N + 1)) (g : GSem nD τ sig) (u : Unit) (h : 0 < (dat m c).owed t g u) :
    u ∈ L g ∧ 0 < lv g u := by
  rw [show (dat m c).owed t = if t.val = 0 then O₀ c else 0 from rfl] at h
  split at h
  · obtain ⟨k, rfl, hk⟩ := O₀_pos h
    exact ⟨L_cell _ _ _, by rw [lv_cell]; exact hk⟩
  · exact absurd h (Nat.lt_irrefl 0)

theorem staging_low : ∀ (w : Fin 3) (s : Fin (spec0 w).nbuf), slotOf (.dma ((spec0 w).sem s)) = none := by decide

theorem share_full (c : Dev nD) (w : Fin 3) : (dat m c).share w = fullShare := by
  unfold Dat.share
  split <;> rfl

set_option backward.isDefEq.respectTransparency.types false in
def regionSeg : 𝕊 :=
  Pipeline.RegionSeg.ofTalk (pcfgs (F := F)) adm (pdats m) () defs₀ 𝒱₀ L lv 0 osem osem_facts
    ∅ (bufs \ arrs) (Finset.empty_subset _) launch0.toP rfl (fun c => (obligation m c).loose)
    (fun _ => 0) O₀ (fun c => (owed_first m c).trans (zero_add _).symm) (owed_last m) (fun _ => rfl) (share_full m)
    (V₁ m) (V₂ m)
    (fun c b hb => V₂_ne m c fun e => (Finset.mem_sdiff.mp (Finset.mem_sdiff.mp hb).1).2 (e ▸ out_mem))
    (kept m) (fun c => semVal (cell c bar) 0) (fun c => iprop(∃ κ, talkIn (given m) κ c)) (fun c => semVal (cell c bar) 0)
    (enter m) (region_in m) (region_out m)
    (fun c => by iintro H; imodintro; iexact H)
    (fun _ => 0)
    ⟨fun c w s => L_cell c () _, fun c w s => by
        show ((slotOf (.dma ((spec0 w).sem s))).map rank).getD 0 ≤ 0
        rw [staging_low]; exact le_refl 0, fun c t g u h => owed_above m c t g u h⟩
    (fun _ => iprop(emp))
    (fun c w => rfl) (fun c w => arr_end m c w)

theorem region_pre (c : Dev nD) : iprop(StableHlo.held (c : Thread nD τ) bufs (V₁ m c) ∗ beside m c) ⊢ (regionSeg m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ kept m c ∗ ∃ Wd, owes (c : Thread nD τ) (0 + O₀ c) Wd)
  rw [StableHlo.held_sub_split (c.tc : Thread nD τ) arrs_sub (V₁ m c), zero_add]
  unfold beside
  iintro ⟨⟨Ha, Hr⟩, Hk, Hp, HO⟩
  isplitl [Ha]; · iexact Ha
  isplitl [Hp]; · iexact Hp
  isplitl [Hr]
  · isplitl [Hr]; · iexact Hr
    iempintro
  isplitl [Hk] <;> iassumption

theorem region_post (c : Dev nD) :
    (regionSeg m).post c ⊢ iprop((StableHlo.held (c : Thread nD τ) bufs (V₂ m c) ∗ semVal (cell c bar) 0) ∗ owing c 0) := by
  show iprop(StableHlo.held (c.tc : Thread nD τ) arrs (V₂ m c) ∗ (∃ r, prngReg c r)
    ∗ (StableHlo.held (c.tc : Thread nD τ) (bufs \ arrs) (V₂ m c) ∗ emp) ∗ semVal (cell c bar) 0
      ∗ ∃ Wd, owes (c : Thread nD τ) (0 : CellTallies nD τ sig Unit) Wd) ⊢ _
  rw [StableHlo.held_sub_split (c.tc : Thread nD τ) arrs_sub (V₂ m c)]
  iintro ⟨Ha, -, ⟨Hr, -⟩, Hb, HO⟩
  isplitr [HO]
  · isplitl [Ha Hr]; · isplitl [Ha] <;> iassumption
    iexact Hb
  iexact HO

/-- The program is its two segments. -/
def segs : List (Pipeline.Seg (pcfgs (F := F)) adm (pdats m) () defs₀ 𝒱₀ L lv) := [.host (hostSeg m), .region (regionSeg m)]

theorem main_eq (c : Dev nD) : main (F := F) c = Pipeline.Seg.run (segs m) :=
  main_segs adm (pdats m) () 𝒱₀ L lv (hostSeg m) (regionSeg m) rfl c

end Cert.KernelIdeal.Exchange
-- ==== Proof.KernelIdeal.Launch.lean ====
/-
  The launch: the cells' invariants and tokens, dealt to the devices, and the whole run.
-/
module

public import proofs.«01_k».proof.Proof.KernelIdeal.Region

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The sets of cells and of tokens -/

def barEmb : Dev nD ↪ GSem nD τ sig := ⟨fun c => cell c bar, fun _ _ h => (cell_inj h).1⟩
def ownEmb : Dev nD × (Bool × Fin 8) ↪ GSem nD τ sig :=
  ⟨fun p => cell p.1 (some p.2), fun _ _ h => Prod.ext (cell_inj h).1 (Option.some.inj (cell_inj h).2)⟩
def tokEmb : Dev nD × Slot ↪ GSem nD τ sig × ℕ × Unit :=
  ⟨fun p => (cell p.1 p.2, 0, ()), fun _ _ h =>
    Prod.ext (cell_inj (congrArg Prod.fst h)).1 (cell_inj (congrArg Prod.fst h)).2⟩

abbrev barCells : Finset (GSem nD τ sig) := Finset.univ.map barEmb
abbrev ownCells : Finset (GSem nD τ sig) := Finset.univ.map ownEmb
abbrev tokens : Finset (GSem nD τ sig × ℕ × Unit) := Finset.univ.map tokEmb

theorem cells_disjoint : Disjoint barCells ownCells := by
  refine Finset.disjoint_left.mpr fun g hb ho => ?_
  obtain ⟨c, -, rfl⟩ := Finset.mem_map.mp hb
  obtain ⟨p, -, h⟩ := Finset.mem_map.mp ho
  exact Option.some_ne_none p.2 (cell_inj h).2

theorem cell_mem (c : Dev nD) : ∀ k : Slot, cell c k ∈ barCells ∪ ownCells
  | none => Finset.mem_union_left _ (Finset.mem_map_of_mem barEmb (Finset.mem_univ c))
  | some p => Finset.mem_union_right _ (Finset.mem_map_of_mem ownEmb (Finset.mem_univ (c, p)))

/-- The launch element of the resources. -/
def u₀ : UU :=
  (initOf (Pipeline.cells (Pipeline.pin (pcfgs (F := F)) adm) cellOf_inj) (Pipeline.launchToks (Pipeline.pin (pcfgs (F := F)) adm) cellOf_inj),
    launchOf barCells ownCells tokens)

/-- The protocol's part waits on device 0 until it is dealt. -/
def parked (c : Dev nD) : sProp 𝕄 := if c = 0 then BI.own (ER (launchOf barCells ownCells tokens)) else iprop(emp)

theorem parked_all : bigSep Finset.univ parked = (BI.own (ER (launchOf barCells ownCells tokens)) : sProp 𝕄) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked
  rw [if_pos rfl]
  exact BI.equiv_iff.mp sep_emp

/-! ## What each device receives -/

/-- What all devices share: every invariant, and that the barrier cells are open. -/
def shared (κ : GSem nD τ sig → ℕ) : sProp 𝕄 :=
  iprop(invs (given m) κ ∗ bigSep Finset.univ fun c : Dev nD => reached ER (cell c bar) 0)

instance shared_persistent (κ : GSem nD τ sig → ℕ) : BI.Persistent (shared m κ) := by unfold shared; infer_instance

theorem invs_of (κ : GSem nD τ sig → ℕ) :
    (bigSep (barCells ∪ ownCells) fun g => cellInv ER (sched (given m)) (κ g) g : sProp 𝕄) ⊢ invs (given m) κ := by
  unfold invs
  have hone (p : Dev nD × Slot) : (bigSep (barCells ∪ ownCells) fun g => cellInv ER (sched (given m)) (κ g) g : sProp 𝕄)
      ⊢ cellInv ER (sched (given m)) (κ (cell p.1 p.2)) (cell p.1 p.2) := bigSep_elim (cell_mem p.1 p.2)
  have hall : iprop((bigSep (barCells ∪ ownCells) fun g => cellInv ER (sched (given m)) (κ g) g : sProp 𝕄)
        ∗ bigSep Finset.univ fun _ : Dev nD × Slot => iprop(emp))
      ⊢ (bigSep Finset.univ fun p : Dev nD × Slot => cellInv ER (sched (given m)) (κ (cell p.1 p.2)) (cell p.1 p.2) : sProp 𝕄) :=
    bigSep_with_persistent fun p _ => by
      iintro ⟨#H, -⟩
      iapply (hone p) $$ H
  iintro #H
  iapply hall
  isplitr; · iexact H
  iapply (Entails.of_eq (show (iprop(emp) : sProp 𝕄) = bigSep Finset.univ fun _ : Dev nD × Slot => iprop(emp) from (BI.bigSep_emp_const (s := Finset.univ)).symm))
  iempintro

/-- A device's own part of the ghost state: its barrier's position, the rights to open its cells, the tokens it pays. -/
def dealt (c : Dev nD) : sProp 𝕄 :=
  iprop(atPos ER (cell c bar) 0 ∅ 0 ∗ (bigSep Finset.univ fun p : Bool × Fin 8 => openTok ER (cell c (some p)))
    ∗ dutyTok ER (cell (peer c) bar) 0 () ∗ bigSep Finset.univ fun i => sendToks c i)

/-- A device's credit: its barrier's and its receive cells'. -/
def credit (c : Dev nD) : sProp 𝕄 :=
  iprop(cred (tallyAt (cell c bar) () 1) ∗ bigSep Finset.univ fun i => cred (tallyAt (cell c (rcv i)) () N))

theorem kept_intro (κ : GSem nD τ sig → ℕ) (c : Dev nD) : iprop(shared m κ ∗ dealt c ∗ credit c) ⊢ (kept m c : sProp 𝕄) := by
  unfold shared dealt credit kept waitPre
  iintro ⟨⟨#HI, #Hr⟩, ⟨Hat, Ho, Ht, Hs⟩, HcB, HcR⟩
  isplitr; · iexists κ; iexact HI
  isplitl [Ht Hat HcB]
  · isplitl [Ht]; · iexact Ht
    isplitr
    · iapply (show (bigSep Finset.univ fun d : Dev nD => (reached ER (cell d bar) 0 : sProp 𝕄)) ⊢ reached ER (cell (peer c) bar) 0 from
        bigSep_elim (Finset.mem_univ (peer c))) $$ Hr
    isplitl [Hat]; · iexact Hat
    iexact HcB
  isplitl [Hs]; · iexact Hs
  isplitl [Ho]; · iexact Ho
  iexact HcR

/-! ## The tokens -/

/-- Anything held of every slot is held of the barrier, of the send cells and of the receive cells. -/
theorem slot_split (Φ : Slot → sProp 𝕄) :
    bigSep Finset.univ Φ = iprop(Φ bar ∗ (bigSep Finset.univ fun i => Φ (snd i)) ∗ bigSep Finset.univ fun i => Φ (rcv i)) := by
  rw [show (Finset.univ : Finset Slot) = insert none (Finset.univ.map Function.Embedding.some) from by decide,
    bigSep_insert (by decide), bigSep_map]
  exact congrArg (fun P => iprop(Φ bar ∗ P)) (own_split fun p => Φ (some p))

/-- Each token goes to the device that pays it: the send cell's stays, the two others go to the partner. -/
theorem deal_tokens :
    (bigSep tokens fun x => (dutyTok ER x.1 x.2.1 x.2.2 : sProp 𝕄))
      ⊢ bigSep Finset.univ fun c : Dev nD => iprop(dutyTok ER (cell (peer c) bar) 0 () ∗ bigSep Finset.univ fun i => sendToks c i) := by
  have h : (bigSep tokens fun x => (dutyTok ER x.1 x.2.1 x.2.2 : sProp 𝕄))
      = bigSep Finset.univ fun c : Dev nD => iprop(dutyTok ER (cell c bar) 0 ()
        ∗ (bigSep Finset.univ fun i => dutyTok ER (cell c (snd i)) 0 ()) ∗ bigSep Finset.univ fun i => dutyTok ER (cell c (rcv i)) 0 ()) := by
    rw [bigSep_map, bigSep_univ_prod]
    exact bigSep_congr fun c _ => slot_split fun k => (dutyTok ER (cell c k) 0 () : sProp 𝕄)
  rw [h]
  iintro H
  ihave H := bigSep_unpair $$ H; icases H with ⟨HB, H⟩
  ihave H := bigSep_unpair $$ H; icases H with ⟨HS, HR⟩
  ihave HB := (Entails.of_eq (bigSep_univ_equiv swap fun c : Dev nD => (dutyTok ER (cell c bar) 0 () : sProp 𝕄))) $$ HB
  ihave HR := (Entails.of_eq (bigSep_univ_equiv swap fun c : Dev nD =>
    (bigSep Finset.univ fun i => dutyTok ER (cell c (rcv i)) 0 () : sProp 𝕄))) $$ HR
  iapply bigSep_pair
  isplitl [HB]; · iexact HB
  unfold sendToks
  iapply (show iprop((bigSep Finset.univ fun c : Dev nD => (bigSep Finset.univ fun i => dutyTok ER (cell c (snd i)) 0 () : sProp 𝕄))
      ∗ bigSep Finset.univ fun c : Dev nD => (bigSep Finset.univ fun i => dutyTok ER (cell (peer c) (rcv i)) 0 () : sProp 𝕄))
      ⊢ bigSep Finset.univ fun c : Dev nD => bigSep Finset.univ fun i => iprop(dutyTok ER (cell c (snd i)) 0 () ∗ dutyTok ER (cell (peer c) (rcv i)) 0 ())
    from bigSep_pair.trans (bigSep_mono fun c _ => bigSep_pair))
  isplitl [HS]; · iexact HS
  iexact HR

/-! ## The credit -/

theorem debt_apply (d c : Dev nD) (k : Slot) : ∀ l : List (Fin 8), l.Nodup →
    debt d l (cell c k) () = if d = peer c ∧ ∃ i ∈ l, k = rcv i then N else 0
  | [], _ => by
    rw [if_neg (by simp)]; rfl
  | i :: l, hl => by
    have ih := debt_apply d c k l (List.nodup_cons.mp hl).2
    have hi := (List.nodup_cons.mp hl).1
    unfold debt
    rw [Pi.add_apply, Finsupp.add_apply, ih, tallyAt_apply]
    by_cases hd : d = peer c
    · subst hd
      rw [peer_peer]
      by_cases hk : k = rcv i
      · subst hk
        have hn : ¬ (peer c = peer c ∧ ∃ j ∈ l, rcv i = rcv j) := by
          rintro ⟨-, j, hj, e⟩
          obtain rfl : i = j := by simpa using e
          exact hi hj
        rw [if_neg hn, if_pos ⟨rfl, rfl⟩, if_pos ⟨rfl, i, List.mem_cons_self, rfl⟩, Nat.zero_add]
      · rw [if_neg (c := cell c k = cell c (rcv i) ∧ () = ()) (fun h => hk (cell_inj h.1).2), Nat.add_zero]
        refine if_congr (and_congr_right fun _ => ?_) rfl rfl
        constructor
        · rintro ⟨j, hj, e⟩; exact ⟨j, List.mem_cons_of_mem _ hj, e⟩
        · rintro ⟨j, hj, e⟩
          rcases List.mem_cons.mp hj with rfl | hj
          · exact absurd e hk
          · exact ⟨j, hj, e⟩
    · rw [if_neg (fun h => hd h.1), if_neg (fun h => hd ?_), if_neg (fun h => hd h.1)]
      rw [(cell_inj h.1).1, peer_peer]

/-- What device `d` owes cell `k` of device `c`. -/
theorem owed_apply (d c : Dev nD) (k : Slot) :
    O₀ d (cell c k) () = if d = peer c then (match k with | none => 1 | some (true, _) => N | some (false, _) => 0) else 0 := by
  unfold O₀
  rw [Pi.add_apply, Finsupp.add_apply, debt_apply d c k chunks (by decide), tallyAt_apply]
  by_cases hd : d = peer c
  · subst hd
    rw [peer_peer, if_pos rfl]
    match k with
    | none => rw [if_neg (by simp), if_pos ⟨rfl, rfl⟩]
    | some (true, i) =>
      rw [if_pos ⟨rfl, i, (by decide : ∀ i : Fin 8, i ∈ chunks) i, rfl⟩, if_neg (fun h => by simpa using (cell_inj h.1).2)]
      rfl
    | some (false, i) =>
      rw [if_neg (by simp), if_neg (fun h => by simpa using (cell_inj h.1).2)]
  · rw [if_neg (fun h => hd h.1), if_neg (fun h => hd ?_), if_neg hd]
    rw [(cell_inj h.1).1, peer_peer]

theorem launch_at (c : Dev nD) (k : Slot) :
    tallyOn (cell c k) (launchCredit (Pipeline.owing O₀) 0 (cell c k))
      = (tallyAt (cell c k) () (match k with | none => 1 | some (true, _) => N | some (false, _) => 0) : CellTallies nD τ sig Unit) := by
  unfold tallyAt
  refine congrArg _ (Finsupp.ext fun u => ?_)
  cases u
  rw [Pipeline.launchCredit_owing, Finsupp.single_eq_same, Finset.sum_congr rfl fun d _ => owed_apply d c k,
    Finset.sum_ite_eq' Finset.univ (peer c), if_pos (Finset.mem_univ _)]

theorem credit_intro (c : Dev nD) : (Pipeline.launchCred O₀ c : sProp 𝕄) ⊢ credit c := by
  have h : (Pipeline.launchCred O₀ c : sProp 𝕄)
      ⊢ bigSep Finset.univ fun k : Slot => cred (tallyOn (cell c k) (launchCredit (Pipeline.owing O₀) 0 (cell c k))) := by
    unfold Pipeline.launchCred
    refine (bigSep_subset (Finset.subset_univ (Finset.univ.map ⟨semOf, semOf_inj⟩))).trans ?_
    rw [bigSep_map]
    exact BI.Entails.refl _
  refine h.trans ?_
  rw [slot_split]
  unfold credit
  iintro ⟨HB, -, HR⟩
  isplitl [HB]
  · iapply (Entails.of_eq (congrArg cred (launch_at c bar))) $$ HB
  · iapply (show (bigSep Finset.univ fun i => (cred (tallyOn (cell c (rcv i)) (launchCredit (Pipeline.owing O₀) 0 (cell c (rcv i)))) : sProp 𝕄))
      ⊢ bigSep Finset.univ fun i => cred (tallyAt (cell c (rcv i)) () N) from
      bigSep_mono fun i _ => Entails.of_eq (congrArg cred (launch_at c (rcv i)))) $$ HR

/-! ## The run -/

theorem unscoped_counters (c : Dev nD) : (unscopedSems0 c : sProp 𝕄) = semVal (cell c bar) 0 := by
  unfold unscopedSems0
  rw [show (Finset.univ.filter fun sm : SemLoc sig => ¬ sm.isScoped .tc) = {SemLoc.reg barrier0} from by decide, BI.bigSep_singleton]

theorem unscoped_bar : ∀ sm : SemLoc sig, sm.isScoped .tc = false → sm = .reg barrier0 := by decide

/-- The arrays, one by one: the arguments, the result, the reshaped operand. -/
theorem bufs_held (c : Dev nD) (W : Valuation τ sig (Elt F)) :
    (StableHlo.held (c : Thread nD τ) bufs W : sProp 𝕄)
      = iprop(((c : Thread nD τ).loc main_arg0 ↦{fullShare} W main_arg0) ∗ ((c : Thread nD τ).loc main_arg1 ↦{fullShare} W main_arg1)
        ∗ ((c : Thread nD τ).loc main_v2 ↦{fullShare} W main_v2) ∗ ((c : Thread nD τ).loc main_v1 ↦{fullShare} W main_v1)) := by
  unfold StableHlo.held
  rw [bigSep_eq_bigSepL_of_eq [Proc.devRef .tc main_arg0, Proc.devRef .tc main_arg1, Proc.devRef .tc main_v2, Proc.devRef .tc main_v1] (by decide) (by decide)]
  rfl

/-- What a device starts the program with, and what it ends with. -/
abbrev start (c : Dev nD) : sProp 𝕄 := iprop(StableHlo.held (c : Thread nD τ) bufs (V₀ m c) ∗ beside m c)
abbrev finish (c : Dev nD) : sProp 𝕄 := iprop(StableHlo.held (c : Thread nD τ) bufs (V₂ m c) ∗ semVal (cell c bar) 0)

/-- A device's launch holdings that are not the protocol's. -/
def plain (c : Dev nD) : sProp 𝕄 :=
  iprop(StableHlo.held (c : Thread nD τ) bufs (V₀ m c) ∗ (∃ r, prngReg c r) ∗ owing c (O₀ c))

theorem start_intro (κ : GSem nD τ sig → ℕ) (c : Dev nD) :
    iprop(shared m κ ∗ ((dealt c ∗ credit c) ∗ plain m c)) ⊢ start m c := by
  unfold plain start beside
  iintro ⟨#Hsh, Hd, Hh, Hp, HO⟩
  isplitl [Hh]; · iexact Hh
  isplitl [Hd]
  · iapply (kept_intro m κ c)
    isplitr; · iexact Hsh
    iexact Hd
  isplitl [Hp] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (start m) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop((plain m c ∗ credit c) ∗ semVal (cell c bar) 0 ∗ parked c) : sProp 𝕄) := by
    rw [show unscopedBufs c (fun b => m ((c : Thread nD τ).loc b)) = StableHlo.held (c : Thread nD τ) bufs (V₀ m c) from unscoped_held c (V₀ m c),
      unscoped_counters]
    unfold plain
    iintro ⟨Hh, Hb, HO, Hc, Hp, Hk⟩
    isplitl [Hh HO Hc Hp]
    · isplitl [Hh HO Hp]
      · isplitl [Hh]; · iexact Hh
        isplitl [Hp]; · iexists (ρ c); iexact Hp
        iexists ∅; iexact HO
      iapply (credit_intro c) $$ Hc
    isplitl [Hb] <;> iassumption
  have hbar (Φ : GSem nD τ sig → sProp 𝕄) : bigSep barCells Φ = bigSep Finset.univ fun c : Dev nD => Φ (cell c bar) := bigSep_map barEmb
  have hown (Φ : GSem nD τ sig → sProp 𝕄) :
      bigSep ownCells Φ = bigSep Finset.univ fun c : Dev nD => bigSep Finset.univ fun p : Bool × Fin 8 => Φ (cell c (some p)) :=
    (bigSep_map ownEmb).trans (bigSep_univ_prod _)
  iintro ⟨H, -⟩
  ihave H := (show (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ parked c))
      ⊢ (bigSep Finset.univ fun c : Dev nD => iprop((plain m c ∗ credit c) ∗ semVal (cell c bar) 0 ∗ parked c) : sProp 𝕄)
    from bigSep_mono fun c _ => hone c) $$ H
  ihave H := bigSep_unpair $$ H; icases H with ⟨HP, H⟩
  ihave HP := bigSep_unpair $$ HP; icases HP with ⟨HP, HC⟩
  ihave H := bigSep_unpair $$ H; icases H with ⟨Hv, HG⟩
  ihave HG := (Entails.of_eq (parked_all (F := F))) $$ HG
  imod (Rounds.fund_launch ER (sched (given m)) cells_disjoint (fun g _ h => h) tokens) $$ [Hv HG] with ⟨%κ, -, #Hinv, #Hr, Hat, Ho, Htok⟩
  · isplitl [Hv]
    · iapply (Entails.of_eq (hbar fun g => semVal g 0).symm) $$ Hv
    · iexact HG
  imodintro
  iapply (bigSep_with_persistent (R := shared m κ) (Φ := fun c => iprop((dealt c ∗ credit c) ∗ plain m c)) fun c _ => start_intro m κ c)
  isplitr
  · unfold shared
    isplitr; · iapply (invs_of m κ) $$ Hinv
    iapply (Entails.of_eq (hbar fun g => reached ER g 0)) $$ Hr
  iapply bigSep_pair
  isplitr [HP]
  · iapply bigSep_pair
    isplitr [HC]
    · unfold dealt
      iapply bigSep_pair
      isplitl [Hat]; · iapply (Entails.of_eq (hbar fun g => atPos ER g 0 ∅ 0)) $$ Hat
      iapply bigSep_pair
      isplitl [Ho]; · iapply (Entails.of_eq (hown fun g => openTok ER g)) $$ Ho
      iapply (deal_tokens (F := F)) $$ Htok
    · iexact HC
  · iexact HP

set_option backward.isDefEq.respectTransparency.types false in
/-- From any memory with zero counters, every device's result array ends holding the sum of its own product and its
    partner's, the arguments are unchanged, and every counter is back at zero. -/
theorem run_main : θ_run defs (onTc (τ := τ) (main (F := F))) ⟨m, fun _ => 0, ρ⟩
    (fun r => (∀ c : Dev nD, r.2.mem ((c : Thread nD τ).loc main_v2) = result (given m) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := start m) (Tₙ := finish m)
    (hch := ⟨fun c => .rfl, fun c => region_pre m c, fun c => region_post m c⟩)
    (hinit := init m ρ)
    (QY := fun c s => ((s.mem ((c : Thread nD τ).loc main_v2) = V₂ m c main_v2) ∧ (s.mem ((c : Thread nD τ).loc main_arg0) = V₂ m c main_arg0)
        ∧ s.mem ((c : Thread nD τ).loc main_arg1) = V₂ m c main_arg1) ∧ s.sem (cell c bar) = 0)
    (hfin := fun c s' => by
      dsimp only [finish]
      rw [bufs_held]
      iintro ⟨⟨⟨H0, H1, H2, -⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h2, Buf.eq_of_forall_mem_univ h0, Buf.eq_of_forall_mem_univ h1⟩, by simpa using hb⟩
      iexact HSI)
    (hQ := fun s h hs => ⟨fun c => by
        obtain ⟨⟨h2, h0, h1⟩, -⟩ := h c
        exact ⟨h2.trans (V₂_out m c), h0.trans ((V₂_ne m c (b := Proc.devRef .tc main_arg0) (by decide)).trans (V_main_arg0 m c)),
          h1.trans ((V₂_ne m c (b := Proc.devRef .tc main_arg1) (by decide)).trans (V_main_arg1 m c))⟩,
      sem_eq_zero hs fun c sm hsm => by
        obtain rfl := unscoped_bar sm hsm
        exact (h c).2⟩)

end Cert.KernelIdeal.Exchange
-- ==== Proof.Value.Products.lean ====
/-
  What the kernel's three computations are over the extended reals, element by element: two products with the weight and
  one sum.  Rounding to bf16 and widening back change nothing there.
-/
module

public import proofs.«01_k».proof.Proof.KernelIdeal.Geometry
public import Idealize.ShloMosaic.Lib.Pointwise

@[expose] public section

set_option maxRecDepth 16384

noncomputable section

namespace Cert.Value

open Cert.KernelIdeal Cert.KernelIdeal.Gen Cert.KernelIdeal.Exchange
open Idealize.ShloMosaic Idealize.SL.Sem

/-- A sent chunk is the product of its 128 rows with the weight. -/
theorem sendVal_apply (x : Vec Ideal S1x128x1024 .f32) (w : Vec Ideal S1024x2048 .f32) (j : S1x128x2048.Idx) :
    sendVal x w j = ∑ k : Fin 1024, x (ix3 0 (j 1) k) * w (ix2 k (j 2)) := by
  unfold sendVal k0_pay1
  pointwise

/-- The device's own product for a batch. -/
theorem ownVal_apply (x : Vec Ideal S1x512x1024 .f32) (w : Vec Ideal S1024x2048 .f32) (j : S1x512x2048.Idx) :
    ownVal x w j = ∑ k : Fin 1024, x (ix3 0 (j 1) k) * w (ix2 k (j 2)) := by
  unfold ownVal k0_pay11
  pointwise

/-- Adding an arrived chunk is adding its elements. -/
theorem addVal_apply (y : Vec Ideal S1x128x2048 .f32) (z : Vec Ideal S1x128x2048 .bf16) (j : S1x128x2048.Idx) :
    addVal y z j = (y j + z j : EReal) := by
  unfold addVal k0_pay13
  pointwise

end Cert.Value

end
-- ==== Proof.Value.Result.lean ====
/-
  The kernel's result over the extended reals: at every element the device's own product plus its partner's, each over
  that device's half of the summed axis.
-/
module

public import proofs.«01_k».proof.Proof.Value.Products

@[expose] public section

set_option maxRecDepth 16384

noncomputable section

namespace Cert.Value

open Cert.KernelIdeal Cert.KernelIdeal.Gen Cert.KernelIdeal.Exchange
open Idealize.ShloMosaic Idealize.SL.Sem

variable (X : Operands Ideal)

/-- What device `d` contributes to batch `b`, row `r`, column `n` of the whole product: the sum over its half of the
    summed axis. -/
def part (d : Dev nD) (b : Fin 2) (r : Fin 1024) (n : Fin 2048) : EReal :=
  ∑ k : Fin 1024, X.o d (ix3 b r k) * X.w d (ix2 k n)

/-- The row of the whole product that row `q` of device `c`'s result is. -/
def row (c : Dev nD) (q : Fin 512) : Fin 1024 :=
  ⟨512 * (c.val / 16) + q.val, by have := c.isLt; have := q.isLt; simp only [nD] at *; omega⟩

/-! ## Where the rows are read -/

theorem ownOf_eq (d : Dev nD) (b : Fin 2) : ownOf d b = ![b.val, 512 * (d.val / 16), 0] := by
  fin_cases b
  · exact k0_off3_eq d
  · exact k0_off4_eq d

theorem rowsOf_eq (d : Dev nD) (i : Fin 8) :
    rowsOf d i = ![i.val % 2, 128 * (i.val / 2) + 512 - 512 * (d.val / 16), 0] := by
  fin_cases i
  · exact k0_off1_eq d 0
  · exact k0_off2_eq d 0
  · exact k0_off1_eq d 1
  · exact k0_off2_eq d 1
  · exact k0_off1_eq d 2
  · exact k0_off2_eq d 2
  · exact k0_off1_eq d 3
  · exact k0_off2_eq d 3

/-- The device's own product reads the rows of its own half. -/
theorem ownrect_emb (c : Dev nD) (x : S2x512x2048.Idx) (k : Fin 1024) :
    (ownrect c (batchOf x)).emb (ix3 0 (inBatch x 1) k) = ix3 (x 0) (row c (x 1)) k := by
  funext a
  apply Fin.ext
  show ownOf c (batchOf x) a + 1 * (ix3 (0 : Fin 1) (inBatch x 1) k a).val = _
  rw [ownOf_eq]
  match a with
  | 0 => show (x 0).val + 1 * 0 = (x 0).val; omega
  | 1 => show 512 * (c.val / 16) + 1 * (x 1).val = 512 * (c.val / 16) + (x 1).val; omega
  | 2 => show 0 + 1 * k.val = k.val; omega

/-- What the partner sends is of the same rows. -/
theorem orect_emb (c : Dev nD) (x : S2x512x2048.Idx) (k : Fin 1024) :
    (orect (peer c) (chunkOf x)).emb (ix3 0 (inChunk x 1) k) = ix3 (x 0) (row c (x 1)) k := by
  have h0 : (x 0).val < 2 := (x 0).isLt
  have h1 : (x 1).val < 512 := (x 1).isLt
  have hc : c.val < 32 := c.isLt
  funext a
  apply Fin.ext
  show rowsOf (peer c) (chunkOf x) a + 1 * (ix3 (0 : Fin 1) (inChunk x 1) k a).val = _
  rw [rowsOf_eq]
  match a with
  | 0 => show (2 * ((x 1).val / 128) + (x 0).val) % 2 + 1 * 0 = (x 0).val; omega
  | 1 =>
    show 128 * ((2 * ((x 1).val / 128) + (x 0).val) / 2) + 512 - 512 * ((c.val + 16) % 32 / 16) + 1 * ((x 1).val % 128)
      = 512 * (c.val / 16) + (x 1).val
    omega
  | 2 => show 0 + 1 * k.val = k.val; omega

theorem wRead_eq (d : Dev nD) : wRead X d = X.w d := by
  funext j
  unfold wRead
  congr 1
  funext a
  apply Fin.ext
  match a with
  | 0 => show 0 + 1 * (j 0).val = (j 0).val; omega
  | 1 => show 0 + 1 * (j 1).val = (j 1).val; omega

/-! ## The result -/

theorem own_eq (c : Dev nD) (x : S2x512x2048.Idx) : own X c x = part X c (x 0) (row c (x 1)) (x 2) := by
  unfold own part
  rw [ownVal_apply, wRead_eq]
  exact Finset.sum_congr rfl fun k _ => by rw [ownrect_emb]; rfl

theorem sent_eq (c : Dev nD) (x : S2x512x2048.Idx) :
    sent X (peer c) (chunkOf x) (inChunk x) = part X (peer c) (x 0) (row c (x 1)) (x 2) := by
  unfold sent part
  rw [sendVal_apply, wRead_eq]
  exact Finset.sum_congr rfl fun k _ => by rw [orect_emb]; rfl

/-- Every element of the result is the sum of the two contributions. -/
theorem result_eq (c : Dev nD) (x : S2x512x2048.Idx) :
    result X c x = part X c (x 0) (row c (x 1)) (x 2) + part X (peer c) (x 0) (row c (x 1)) (x 2) := by
  unfold result partly
  rw [if_neg List.not_mem_nil, addVal_apply, sent_eq, emb_inChunk, own_eq]

end Cert.Value

end
-- ==== Proof.Value.Whole.lean ====
/-
  The reference's result over the extended reals, element by element, and as the sum of its two halves: one over the
  first half of the summed axis, one over the second.
-/
module

public import proofs.«01_k».proof.Proof.Gen.ReferenceIdeal
public import Idealize.ShloMosaic.Lib.Pointwise

@[expose] public section

set_option maxRecDepth 16384

noncomputable section

namespace Cert.Value

open Cert.ReferenceIdeal Cert.ReferenceIdeal.Gen
open Idealize.ShloMosaic Idealize.SL.Sem

variable (O : FVec Ideal S2x1024x32x64 .f32) (W : FVec Ideal S2048x2048 .f32)

/-- The reference's result. -/
def whole : FVec Ideal S2x1024x2048 .f32 :=
  Host.dotGeneral dot_S2x1024x2048_S2048x2048_S2x1024x2048_2_0_01_1_n_n none
    (shapeCast S2x1024x2048 O shapeCasts_S2x1024x32x64_S2x1024x2048) W

/-- The term of the sum at `k`: head `k / 64`, its entry `k % 64`. -/
def term (b : Fin 2) (r : Fin 1024) (n k : Fin 2048) : EReal :=
  O (ix4 b r (⟨k.val / 64, by have := k.isLt; omega⟩ : Fin 32) (⟨k.val % 64, Nat.mod_lt _ (by decide)⟩ : Fin 64)) * W (ix2 k n)

/-- Place `k` of half `h` of the summed axis. -/
def inHalf (h : Fin 2) (k : Fin 1024) : Fin 2048 :=
  ⟨1024 * h.val + k.val, by have := h.isLt; have := k.isLt; omega⟩

/-- The sum over half `h`. -/
def half (h : Fin 2) (b : Fin 2) (r : Fin 1024) (n : Fin 2048) : EReal :=
  ∑ k : Fin 1024, term O W b r n (inHalf h k)

theorem whole_apply (x : S2x1024x2048.Idx) : whole O W x = ∑ k : Fin 2048, term O W (x 0) (x 1) (x 2) k := by
  unfold whole term
  pointwise

/-- A sum over the axis is the sum over its first half and the sum over its second. -/
theorem sum_halves (f : Fin 2048 → EReal) :
    ∑ k : Fin 2048, f k = ∑ k : Fin 1024, f (inHalf 0 k) + ∑ k : Fin 1024, f (inHalf 1 k) := by
  refine (Fin.sum_univ_add (a := 1024) (b := 1024) f).trans (congrArg₂ (· + ·) ?_ rfl)
  exact Finset.sum_congr rfl fun k _ => congrArg f (Fin.ext (by show k.val = 1024 * 0 + k.val; omega))

theorem whole_halves (x : S2x1024x2048.Idx) :
    whole O W x = half O W 0 (x 0) (x 1) (x 2) + half O W 1 (x 0) (x 1) (x 2) :=
  (whole_apply O W x).trans (sum_halves _)

end Cert.Value

end
-- ==== Proof.Value.Equal.lean ====
/-
  Over the extended reals every device's result is its block of the reference's: a device's half of the operands gives
  one half of each sum, its partner's the other.
-/
module

public import proofs.«01_k».proof.Proof.Value.Result
public import proofs.«01_k».proof.Proof.Value.Whole
public import proofs.«01_k».proof.Proof.KernelIdeal.Data
public import Idealize.ShloMosaic.Lib.Layout
public import Idealize.ShloMosaic.Lib.StableHlo.Run

@[expose] public section

set_option maxRecDepth 16384

noncomputable section

namespace Cert.Value

open Cert.KernelIdeal Cert.KernelIdeal.Gen Cert.KernelIdeal.Exchange
open Idealize.ShloMosaic Idealize.ShloMosaic.TcCoe Idealize.SL.Sem Idealize.ShloMosaic.StableHlo

variable (m : (ℓ : Loc nD τ sig) → Buf (Elt Ideal) ℓ)

/-! ## What the kernel is given -/

/-- The first operand is the first argument with its heads laid side by side. -/
theorem given_o (c : Dev nD) :
    (given m).o c = shapeCast S2x1024x1024 (m ((c : Thread nD τ).loc main_arg0)) shapeCasts_S2x1024x16x64_S2x1024x1024 := by
  show StableHlo.after hostOps0 (fun b => m (c, b)) main_v1 = _
  after_results <;> rfl

/-- The second operand is the second argument. -/
theorem given_w (c : Dev nD) : (given m).w c = m ((c : Thread nD τ).loc main_arg1) := V_main_arg1 m c

theorem given_o_apply (c : Dev nD) (b : Fin 2) (r k : Fin 1024) :
    (given m).o c (ix3 b r k) = m ((c : Thread nD τ).loc main_arg0)
      (ix4 b r (⟨k.val / 64, by have := k.isLt; omega⟩ : Fin 16) (⟨k.val % 64, Nat.mod_lt _ (by decide)⟩ : Fin 64)) := by
  rw [given_o]
  pointwise

/-! ## The blocks -/

/-- The device's coordinate on the first mesh axis. -/
def side (c : Dev nD) : Fin 2 := ⟨c.val / 16, by have := c.isLt; simp only [nD] at *; omega⟩

theorem side_peer (c : Dev nD) : side (peer c) = 1 - side c := by
  revert c; decide

/-- The block along an axis cut by the first mesh axis. -/
theorem lin_first (c : Dev nD) : Layout.meshLin [2, 4, 4] c.val [0] = c.val / 16 := by
  revert c; decide

variable {O : FVec Ideal Cert.ReferenceIdeal.S2x1024x32x64 .f32} {W : FVec Ideal Cert.ReferenceIdeal.S2048x2048 .f32}

/-- Device `c` contributes the sum over its own half of the axis. -/
theorem part_eq (c : Dev nD)
    (h0 : m ((c : Thread nD τ).loc main_arg0) = Layout.blockN (⟨4, ![2, 1024, 16, 64]⟩ : Shape) (⟨4, ![2, 1024, 32, 64]⟩ : Shape)
      (Layout.meshBlock [2, 4, 4] (![[], [], [0], []] : Fin 4 → List Nat) c) O)
    (h1 : m ((c : Thread nD τ).loc main_arg1) = Layout.blockN (⟨2, ![1024, 2048]⟩ : Shape) (⟨2, ![2048, 2048]⟩ : Shape)
      (Layout.meshBlock [2, 4, 4] (![[0], []] : Fin 2 → List Nat) c) W)
    (b : Fin 2) (r : Fin 1024) (n : Fin 2048) :
    part (given m) c b r n = half O W (side c) b r n := by
  unfold part half
  refine Finset.sum_congr rfl fun k _ => ?_
  have hk := k.isLt
  have hl := lin_first c
  rw [given_o_apply, given_w, h0, h1]
  unfold term
  congr 1
  · refine congrArg O (funext fun a => Fin.ext ?_)
    rw [Layout.TilesN.idx_val]
    match a with
    | 0 => show 0 * 2 + b.val = b.val; omega
    | 1 => show 0 * 1024 + r.val = r.val; omega
    | 2 =>
      show Layout.meshLin [2, 4, 4] c.val [0] * 16 + k.val / 64 = (1024 * (c.val / 16) + k.val) / 64
      omega
    | 3 =>
      show 0 * 64 + k.val % 64 = (1024 * (c.val / 16) + k.val) % 64
      omega
  · refine congrArg W (funext fun a => Fin.ext ?_)
    rw [Layout.TilesN.idx_val]
    match a with
    | 0 =>
      show Layout.meshLin [2, 4, 4] c.val [0] * 1024 + k.val = 1024 * (c.val / 16) + k.val
      omega
    | 1 => show 0 * 2048 + n.val = n.val; omega

/-! ## The results -/

/-- A device and its partner have one half each, so their two terms are the two terms there are. -/
theorem add_sides (f : Fin 2 → EReal) (c : Dev nD) : f (side c) + f (side (peer c)) = f 0 + f 1 := by
  rw [side_peer]
  rcases (by decide : ∀ s : Fin 2, s = 0 ∨ s = 1) (side c) with hs | hs
  · rw [hs]; rfl
  · rw [hs]; exact add_comm _ _

/-- Where element `x` of device `c`'s block of the result is in the whole. -/
theorem block_idx (c : Dev nD) (x : S2x512x2048.Idx)
    (h : Layout.TilesN (⟨3, ![2, 512, 2048]⟩ : Shape) (⟨3, ![2, 1024, 2048]⟩ : Shape)
      (fun b => Layout.cutSize [2, 4, 4] ((![[], [0], []] : Fin 3 → List Nat) b))) :
    h.idx (Layout.meshBlock [2, 4, 4] (![[], [0], []] : Fin 3 → List Nat) c) x = ix3 (x 0) (row c (x 1)) (x 2) := by
  have hl := lin_first c
  funext a
  apply Fin.ext
  rw [Layout.TilesN.idx_val]
  match a with
  | 0 => show 0 * 2 + (x 0).val = (x 0).val; omega
  | 1 =>
    show Layout.meshLin [2, 4, 4] c.val [0] * 512 + (x 1).val = 512 * (c.val / 16) + (x 1).val
    omega
  | 2 => show 0 * 2048 + (x 2).val = (x 2).val; omega

/-- Every device's result is its block of the reference's. -/
theorem result_block
    (h0 : ∀ c : Dev nD, m ((c : Thread nD τ).loc main_arg0) = Layout.blockN (⟨4, ![2, 1024, 16, 64]⟩ : Shape) (⟨4, ![2, 1024, 32, 64]⟩ : Shape)
      (Layout.meshBlock [2, 4, 4] (![[], [], [0], []] : Fin 4 → List Nat) c) O)
    (h1 : ∀ c : Dev nD, m ((c : Thread nD τ).loc main_arg1) = Layout.blockN (⟨2, ![1024, 2048]⟩ : Shape) (⟨2, ![2048, 2048]⟩ : Shape)
      (Layout.meshBlock [2, 4, 4] (![[0], []] : Fin 2 → List Nat) c) W)
    (c : Dev nD) :
    result (given m) c = Layout.blockN (⟨3, ![2, 512, 2048]⟩ : Shape) (⟨3, ![2, 1024, 2048]⟩ : Shape)
      (Layout.meshBlock [2, 4, 4] (![[], [0], []] : Fin 3 → List Nat) c) (whole O W) := by
  funext x
  refine (result_eq (given m) c x).trans (Eq.trans ?_
    ((Layout.blockN_apply _ (whole O W) _ x).trans (congrArg (whole O W) (block_idx c x _))).symm)
  exact (congrArg₂ (· + ·) (part_eq m c (h0 c) (h1 c) (x 0) (row c (x 1)) (x 2))
      (part_eq m (peer c) (h0 _) (h1 _) (x 0) (row c (x 1)) (x 2))).trans
    ((add_sides (fun s => half O W s (x 0) (row c (x 1)) (x 2)) c).trans
      (whole_halves O W (ix3 (x 0) (row c (x 1)) (x 2))).symm)

end Cert.Value

end
-- ==== Proof.lean ====
/-
  The kernel adds, on every device, its own product over its half of the summed axis to its partner's over the other half.
  Here: all three programs terminate without fault, leave their arguments as they were and every semaphore at zero; and
  over the extended reals each device ends with its block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Equal
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed. -/
theorem frame_kernel : Cert.quiescent_Kernel := fun m ρ _ =>
  θ_run_mono (Cert.Kernel.Exchange.run_main m ρ) fun _ h => ⟨fun c => (h.1 c).2, h.2⟩

/-- The kernel over the extended reals. -/
theorem frame_ideal : Cert.quiescent_KernelIdeal := fun m ρ _ =>
  θ_run_mono (Cert.KernelIdeal.Exchange.run_main m ρ) fun _ h => ⟨fun c => (h.1 c).2, h.2⟩

/-- The reference over the extended reals: it has no semaphore at all. -/
theorem frame_reference : Cert.quiescent_ReferenceIdeal := fun m ρ _ =>
  θ_run_mono (Cert.ReferenceIdeal.Value.run m ρ) fun r h => ⟨fun c => (h c).2, sem_eq_zero_of_no_sems (by decide) r.2⟩

/-- Kernel and reference compute the same function over the extended reals: each device ends with its block of the
    reference's result. -/
theorem value : Cert.algebraic_KernelIdeal_ReferenceIdeal := fun m ρ m' ρ' _ hin =>
  ⟨_, θ_run_mono (Cert.KernelIdeal.Exchange.run_main m ρ) fun _ h c =>
      ⟨(h.1 c).1.trans (Cert.Value.result_block m (fun c => (hin c).1) (fun c => (hin c).2) c), (h.1 c).2⟩,
    θ_run_mono (Cert.ReferenceIdeal.Value.run m' ρ') fun _ h => h 0⟩

theorem claim : Cert.Claim :=
  ⟨Cert.Kernel.Gen.facts, Cert.KernelIdeal.Gen.facts, Cert.ReferenceIdeal.Gen.facts,
    frame_kernel, frame_ideal, frame_reference, trivial, value⟩

end Cert.Proof

end
